-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![1, 1024, 16, 128]⟩ ⟨4, ![1, 2048, 16, 128]⟩ (Layout.meshBlock [2, 2, 2] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![1, 1024, 16, 128]⟩ ⟨4, ![1, 2048, 16, 128]⟩ (Layout.meshBlock [2, 2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![1, 1024, 16, 128]⟩ ⟨4, ![1, 2048, 16, 128]⟩ (Layout.meshBlock [2, 2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = Layout.blockN ⟨4, ![1, 1024, 16, 128]⟩ ⟨4, ![1, 2048, 16, 128]⟩ (Layout.meshBlock [2, 2, 2] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x16x128 : Shape := ⟨4, ![1, 1024, 16, 128]⟩
abbrev S_ : Shape := ⟨0, ![]⟩

class Facts : Prop where
  bcast_S_S1x1024x16x128 : S_.BroadcastsInDim S1x1024x16x128 (![] : Fin 0 → Fin S1x1024x16x128.rank)
  reducesTo_S1x1024x16x128_S_d0_1_2_3 : S1x1024x16x128.ReducesTo [0, 1, 2, 3] S_
  h_S_ : 0 < S_.numel

variable [Facts]

def fn {F : FTy → Type} [FloatOps F] (main_arg0 : FVec F S1x1024x16x128 .bf16) (main_arg1 : FVec F S1x1024x16x128 .bf16) (main_arg2 : FVec F S1x1024x16x128 .bf16) : IVec S_ 1 :=
  let main_v0 : FVec F S1x1024x16x128 .bf16 := Host.absf main_arg0
  let main_cst : FVec F S_ .bf16 := constant S_ .bf16 0x7F80#16
  let main_v1 : FVec F S1x1024x16x128 .bf16 := broadcastInDim S1x1024x16x128 ![] bcast_S_S1x1024x16x128 main_cst
  let main_v2 : IVec S1x1024x16x128 1 := cmpf .olt main_v0 main_v1
  let main_c : IVec S_ 1 := constantI S_ 1 1#1
  let main_v3 : IVec S_ 1 := (fun x v => Host.reduce IntOp.andi x v reducesTo_S1x1024x16x128_S_d0_1_2_3 h_S_) main_v2 main_c
  let main_v4 : FVec F S1x1024x16x128 .bf16 := Host.absf main_arg1
  let main_cst_0 : FVec F S_ .bf16 := constant S_ .bf16 0x7F80#16
  let main_v5 : FVec F S1x1024x16x128 .bf16 := broadcastInDim S1x1024x16x128 ![] bcast_S_S1x1024x16x128 main_cst_0
  let main_v6 : IVec S1x1024x16x128 1 := cmpf .olt main_v4 main_v5
  let main_c_1 : IVec S_ 1 := constantI S_ 1 1#1
  let main_v7 : IVec S_ 1 := (fun x v => Host.reduce IntOp.andi x v reducesTo_S1x1024x16x128_S_d0_1_2_3 h_S_) main_v6 main_c_1
  let main_v8 : IVec S_ 1 := andi main_v3 main_v7
  main_v8
-- ==== Pre_finite_ReferenceIdeal.lean ====
abbrev S1x2048x16x128 : Shape := ⟨4, ![1, 2048, 16, 128]⟩
abbrev S_ : Shape := ⟨0, ![]⟩

class Facts : Prop where
  bcast_S_S1x2048x16x128 : S_.BroadcastsInDim S1x2048x16x128 (![] : Fin 0 → Fin S1x2048x16x128.rank)
  reducesTo_S1x2048x16x128_S_d0_1_2_3 : S1x2048x16x128.ReducesTo [0, 1, 2, 3] S_
  h_S_ : 0 < S_.numel

variable [Facts]

def fn {F : FTy → Type} [FloatOps F] (main_arg0 : FVec F S1x2048x16x128 .bf16) (main_arg1 : FVec F S1x2048x16x128 .bf16) (main_arg2 : FVec F S1x2048x16x128 .bf16) : IVec S_ 1 :=
  let main_v0 : FVec F S1x2048x16x128 .bf16 := Host.absf main_arg0
  let main_cst : FVec F S_ .bf16 := constant S_ .bf16 0x7F80#16
  let main_v1 : FVec F S1x2048x16x128 .bf16 := broadcastInDim S1x2048x16x128 ![] bcast_S_S1x2048x16x128 main_cst
  let main_v2 : IVec S1x2048x16x128 1 := cmpf .olt main_v0 main_v1
  let main_c : IVec S_ 1 := constantI S_ 1 1#1
  let main_v3 : IVec S_ 1 := (fun x v => Host.reduce IntOp.andi x v reducesTo_S1x2048x16x128_S_d0_1_2_3 h_S_) main_v2 main_c
  let main_v4 : FVec F S1x2048x16x128 .bf16 := Host.absf main_arg1
  let main_cst_0 : FVec F S_ .bf16 := constant S_ .bf16 0x7F80#16
  let main_v5 : FVec F S1x2048x16x128 .bf16 := broadcastInDim S1x2048x16x128 ![] bcast_S_S1x2048x16x128 main_cst_0
  let main_v6 : IVec S1x2048x16x128 1 := cmpf .olt main_v4 main_v5
  let main_c_1 : IVec S_ 1 := constantI S_ 1 1#1
  let main_v7 : IVec S_ 1 := (fun x v => Host.reduce IntOp.andi x v reducesTo_S1x2048x16x128_S_d0_1_2_3 h_S_) main_v6 main_c_1
  let main_v8 : IVec S_ 1 := andi main_v3 main_v7
  main_v8
-- ==== Kernel.lean ====
abbrev S1x1024x16x128 : Shape := ⟨4, ![1, 1024, 16, 128]⟩
abbrev S1024x2048 : Shape := ⟨2, ![1024, 2048]⟩
abbrev S_ : Shape := ⟨0, ![]⟩
abbrev S1024x16 : Shape := ⟨2, ![1024, 16]⟩
abbrev S4 : Shape := ⟨1, ![4]⟩
abbrev S1 : Shape := ⟨1, ![1]⟩
abbrev S256x2048 : Shape := ⟨2, ![256, 2048]⟩
abbrev S1024x1 : Shape := ⟨2, ![1024, 1]⟩
abbrev S256x1 : Shape := ⟨2, ![256, 1]⟩
abbrev S1024x128 : Shape := ⟨2, ![1024, 128]⟩
abbrev S1024x1024 : Shape := ⟨2, ![1024, 1024]⟩
abbrev S256x128 : Shape := ⟨2, ![256, 128]⟩
abbrev S1024x256 : Shape := ⟨2, ![1024, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x1024x16x128, .bf16⟩
  | .hbm, ⟨1, _⟩ => ⟨S1x1024x16x128, .bf16⟩
  | .hbm, ⟨2, _⟩ => ⟨S1x1024x16x128, .bf16⟩
  | .hbm, ⟨3, _⟩ => ⟨S1024x2048, .bf16⟩
  | .hbm, ⟨4, _⟩ => ⟨S_, .bf16⟩
  | .hbm, ⟨5, _⟩ => ⟨S1024x2048, .bf16⟩
  | .hbm, ⟨6, _⟩ => ⟨S1024x2048, .bf16⟩
  | .hbm, ⟨7, _⟩ => ⟨S1024x2048, .bf16⟩
  | .hbm, ⟨8, _⟩ => ⟨S1024x2048, .bf16⟩
  | .hbm, ⟨9, _⟩ => ⟨S1024x2048, .f32⟩
  | .hbm, ⟨10, _⟩ => ⟨S1x1024x16x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .bf16⟩
  | .local _ .vmem, ⟨5, _⟩ => ⟨S1024x2048, .bf16⟩
  | .local _ .vmem, ⟨6, _⟩ => ⟨S1024x16, .f32⟩
  | _, _ => ⟨S1x1024x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_12 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_11 : BitVec 32 := 4#32
  let v17 : BitVec 32 := Scalar.muli v9 c4_i32_11
  let v18 : BitVec 32 := Scalar.addi c0_i32_12 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v19 : BitVec 32 := Scalar.muli v5 c2_i32_13
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v21 : BitVec 32 := Scalar.muli v8 c1_i32_14
  let v22 : BitVec 32 := Scalar.addi v20 v21
  v22.toNat
def k0_dev3 (d0 : Dev nD) : Nat :=
  let c0_i32_22 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_21 : BitVec 32 := 4#32
  let v29 : BitVec 32 := Scalar.muli v9 c4_i32_21
  let v30 : BitVec 32 := Scalar.addi c0_i32_22 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v31 : BitVec 32 := Scalar.muli v5 c2_i32_23
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.muli v8 c1_i32_24
  let v34 : BitVec 32 := Scalar.addi v32 v33
  v34.toNat
def k0_dev4 (d0 : Dev nD) : Nat :=
  let c0_i32_32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_31 : BitVec 32 := 4#32
  let v41 : BitVec 32 := Scalar.muli v9 c4_i32_31
  let v42 : BitVec 32 := Scalar.addi c0_i32_32 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v43 : BitVec 32 := Scalar.muli v5 c2_i32_33
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v45 : BitVec 32 := Scalar.muli v8 c1_i32_34
  let v46 : BitVec 32 := Scalar.addi v44 v45
  v46.toNat
def k0_dev5 (d0 : Dev nD) : Nat :=
  let c0_i32_41 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_40 : BitVec 32 := 4#32
  let v53 : BitVec 32 := Scalar.muli v9 c4_i32_40
  let v54 : BitVec 32 := Scalar.addi c0_i32_41 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v55 : BitVec 32 := Scalar.muli v5 c2_i32_42
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v57 : BitVec 32 := Scalar.muli v8 c1_i32_43
  let v58 : BitVec 32 := Scalar.addi v56 v57
  v58.toNat
def k0_dev6 (d0 : Dev nD) : Nat :=
  let c0_i32_51 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_50 : BitVec 32 := 4#32
  let v65 : BitVec 32 := Scalar.muli v9 c4_i32_50
  let v66 : BitVec 32 := Scalar.addi c0_i32_51 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v67 : BitVec 32 := Scalar.muli v5 c2_i32_52
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v69 : BitVec 32 := Scalar.muli v8 c1_i32_53
  let v70 : BitVec 32 := Scalar.addi v68 v69
  v70.toNat
def k0_dev7 (d0 : Dev nD) : Nat :=
  let c0_i32_60 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_59 : BitVec 32 := 4#32
  let v77 : BitVec 32 := Scalar.muli v9 c4_i32_59
  let v78 : BitVec 32 := Scalar.addi c0_i32_60 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v79 : BitVec 32 := Scalar.muli v5 c2_i32_61
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v81 : BitVec 32 := Scalar.muli v8 c1_i32_62
  let v82 : BitVec 32 := Scalar.addi v80 v81
  v82.toNat
def k0_dev8 (d0 : Dev nD) : Nat :=
  let c0_i32_69 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_68 : BitVec 32 := 4#32
  let v89 : BitVec 32 := Scalar.muli v9 c4_i32_68
  let v90 : BitVec 32 := Scalar.addi c0_i32_69 v89
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v91 : BitVec 32 := Scalar.muli v5 c2_i32_70
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v93 : BitVec 32 := Scalar.muli v8 c1_i32_71
  let v94 : BitVec 32 := Scalar.addi v92 v93
  v94.toNat
def k0_dev9 (d0 : Dev nD) : Nat :=
  let c0_i32_78 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_77 : BitVec 32 := 4#32
  let v101 : BitVec 32 := Scalar.muli v9 c4_i32_77
  let v102 : BitVec 32 := Scalar.addi c0_i32_78 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v103 : BitVec 32 := Scalar.muli v5 c2_i32_79
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v105 : BitVec 32 := Scalar.muli v8 c1_i32_80
  let v106 : BitVec 32 := Scalar.addi v104 v105
  v106.toNat
abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x2048x16x128 : Shape := ⟨4, ![1, 2048, 16, 128]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩
abbrev S1x16x128x2048 : Shape := ⟨4, ![1, 16, 128, 2048]⟩

abbrev nBuf : Space → Nat
  | .hbm => 25
  | .vmem => 0
  | .smem => 0
  | _ => 0

abbrev bufTy : (tb : Table) → Fin (tcTables nBuf tb) → BufTy
  | .hbm, ⟨0, _⟩ => ⟨S1x2048x16x128, .bf16⟩
  | .hbm, ⟨1, _⟩ => ⟨S1x2048x16x128, .bf16⟩
  | .hbm, ⟨2, _⟩ => ⟨S1x2048x16x128, .bf16⟩
  | .hbm, ⟨3, _⟩ => ⟨S1x16x2048x2048, .f32⟩
  | .hbm, ⟨4, _⟩ => ⟨S1x16x2048x2048, .bf16⟩
  | .hbm, ⟨5, _⟩ => ⟨S_, .bf16⟩
  | .hbm, ⟨6, _⟩ => ⟨S1x16x2048x2048, .bf16⟩
  | .hbm, ⟨7, _⟩ => ⟨S1x16x2048x2048, .bf16⟩
  | .hbm, ⟨8, _⟩ => ⟨S_, .bf16⟩
  | .hbm, ⟨9, _⟩ => ⟨S1x16x2048, .bf16⟩
  | .hbm, ⟨10, _⟩ => ⟨S1x16x2048x1, .bf16⟩
  | .hbm, ⟨11, _⟩ => ⟨S1x16x2048x2048, .bf16⟩
  | .hbm, ⟨12, _⟩ => ⟨S1x16x2048x2048, .bf16⟩
  | .hbm, ⟨13, _⟩ => ⟨S1x16x2048x2048, .bf16⟩
  | .hbm, ⟨14, _⟩ => ⟨S1x16x2048x2048, .f32⟩
  | .hbm, ⟨15, _⟩ => ⟨S_, .f32⟩
  | .hbm, ⟨16, _⟩ => ⟨S1x16x2048, .f32⟩
  | .hbm, ⟨17, _⟩ => ⟨S1x16x2048x1, .f32⟩
  | .hbm, ⟨18, _⟩ => ⟨S1x16x2048x1, .bf16⟩
  | .hbm, ⟨19, _⟩ => ⟨S1x16x2048x2048, .bf16⟩
  | .hbm, ⟨20, _⟩ => ⟨S1x16x2048x2048, .bf16⟩
  | .hbm, ⟨21, _⟩ => ⟨S1x16x128x2048, .f32⟩
  | .hbm, ⟨22, _⟩ => ⟨S1x2048x16x128, .f32⟩
  | .hbm, ⟨23, _⟩ => ⟨S1x2048x16x128, .bf16⟩
  | .hbm, ⟨24, _⟩ => ⟨S1x2048x16x128, .f32⟩
  | _, _ => ⟨S1x2048x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Program.lean ====
/- The kernel body as a program of steps: the handshake, the eight copies, then one step per head and per chunk, each
   at a symbolic head and a symbolic chunk. The printed body IS this program (`body_eq`), so every rule about the body is
   stated once per kind of step. -/
module

public import proofs.«01_k».proof.Proof.Gen.KernelIdeal
public import proofs.«01_k».proof.Proof.Gen.KernelIdeal.Points
public import Idealize.ShloMosaic.Lib.Pipeline.Regions

@[expose] public section

noncomputable section

namespace Cert.KernelIdeal.Flow

open Idealize.ShloMosaic Idealize.ShloMosaic.TcCoe
open Idealize.SL Idealize.SL.Sem
open Cert.KernelIdeal Cert.KernelIdeal.Gen

variable {F : FTy → Type} [FloatOps F]

/-! ## The buffers the body is called on -/

/-- The scaled queries. -/
abbrev qM : Memref sig .tc .vmem S1024x2048 .bf16 := Memref.whole cc0_stg0_0
/-- The device's own keys. -/
abbrev kM : Memref sig .tc .vmem S1024x2048 .bf16 := Memref.whole cc0_stg1_0
/-- The device's own values. -/
abbrev vM : Memref sig .tc .vmem S1024x2048 .bf16 := Memref.whole cc0_stg2_0
/-- The output. -/
abbrev oM : Memref sig .tc .vmem S1024x2048 .f32 := Memref.whole cc0_stg3_0
/-- Where the partner's keys land. -/
abbrev krM : Memref sig .tc .vmem S1024x2048 .bf16 := Memref.whole cc0_scratch0
/-- Where the partner's values land. -/
abbrev vrM : Memref sig .tc .vmem S1024x2048 .bf16 := Memref.whole cc0_scratch1
/-- The running denominators, one column per head. -/
abbrev lM : Memref sig .tc .vmem S1024x16 .f32 := Memref.whole cc0_scratch2

/-! ## The regions of the steps -/

theorem colInb (h : Fin 16) : ∀ a, (![0, 128 * h.val] : Fin 2 → Nat) a + S1024x128.size a ≤ S1024x2048.size a := by
  revert h; decide
theorem denInb (h : Fin 16) : ∀ a, (![0, h.val] : Fin 2 → Nat) a + S1024x1.size a ≤ S1024x16.size a := by
  revert h; decide
theorem rowInb (i : Fin 4) : ∀ a, (![256 * i.val, 0] : Fin 2 → Nat) a + S256x2048.size a ≤ S1024x2048.size a := by
  revert i; decide
theorem tileInb (i : Fin 4) (h : Fin 16) :
    ∀ a, (![256 * i.val, 128 * h.val] : Fin 2 → Nat) a + S256x128.size a ≤ S1024x2048.size a := by
  revert i h; decide
theorem semInb (i : Fin 4) : ∀ a, (![i.val] : Fin 1 → Nat) a + S1.size a ≤ S4.size a := by
  revert i; decide

/-- Head `h`'s columns. -/
abbrev colR (h : Fin 16) : Rect S1024x2048 := Rect.unit (s := S1024x2048) ![0, 128 * h.val] S1024x128.size (colInb h)
/-- Head `h`'s denominators. -/
abbrev denR (h : Fin 16) : Rect S1024x16 := Rect.unit (s := S1024x16) ![0, h.val] S1024x1.size (denInb h)
/-- Chunk `i`'s rows. -/
abbrev rowR (i : Fin 4) : Rect S1024x2048 := Rect.unit (s := S1024x2048) ![256 * i.val, 0] S256x2048.size (rowInb i)
/-- Chunk `i`'s rows at head `h`'s columns. -/
abbrev tileR (i : Fin 4) (h : Fin 16) : Rect S1024x2048 :=
  Rect.unit (s := S1024x2048) ![256 * i.val, 128 * h.val] S256x128.size (tileInb i h)

/-- Chunk `i` of a block of keys or values. -/
abbrev chunk (m : Memref sig .tc .vmem S1024x2048 .bf16) (i : Fin 4) : Memref sig .tc .vmem S256x2048 .bf16 :=
  m.slice (rowR i) (fun _ => rfl)

/-- A chunk's rows fill whole words. -/
theorem rowWords : ∀ i : Fin 4, (rowR i).WholeWords (EltTy.packing .bf16)
  | 0 => wordsbf16_S1024x2048_S256x2048_0_0
  | 1 => wordsbf16_S1024x2048_S256x2048_256_0
  | 2 => wordsbf16_S1024x2048_S256x2048_512_0
  | 3 => wordsbf16_S1024x2048_S256x2048_768_0

/-- One of a row of four semaphores. -/
abbrev semAt (a : DmaSems sig S4) (i : Fin 4) : DmaSem sig :=
  ((a.slice (Rect.unit (s := S4) ![i.val] S1.size (semInb i))).squeeze S_ squeezes_S1_S_).sem

/-! ## The steps -/

/-- The kernels' effects on a core. -/
abbrev Code (F : FTy → Type) (A : Type) := Prog (TpuEff nD τ sig (Elt F) Λ₀ .tc) A

/-- One step per item of a list, in order. -/
def each {A : Type} (f : A → Code F PUnit) : List A → Code F PUnit
  | [] => pure ⟨⟩
  | a :: l => f a >>= fun _ => each f l

/-- The heads, in order. -/
abbrev heads : List (Fin 16) := [0, 1, 2, 3, 4, 5, 6, 7, 8, 9, 10, 11, 12, 13, 14, 15]
/-- The chunks, in order. -/
abbrev chunks : List (Fin 4) := [0, 1, 2, 3]

/-- The device the keys of chunk `i` are sent to. -/
abbrev kDev (d : Dev nD) : Fin 4 → Dev nD
  | 0 => ⟨k0_dev2 d, k0_dev2_lt d⟩
  | 1 => ⟨k0_dev4 d, k0_dev4_lt d⟩
  | 2 => ⟨k0_dev6 d, k0_dev6_lt d⟩
  | 3 => ⟨k0_dev8 d, k0_dev8_lt d⟩
/-- The device the values of chunk `i` are sent to. -/
abbrev vDev (d : Dev nD) : Fin 4 → Dev nD
  | 0 => ⟨k0_dev3 d, k0_dev3_lt d⟩
  | 1 => ⟨k0_dev5 d, k0_dev5_lt d⟩
  | 2 => ⟨k0_dev7 d, k0_dev7_lt d⟩
  | 3 => ⟨k0_dev9 d, k0_dev9_lt d⟩

/-- Send chunk `i` of `src` to device `d`'s `dst`. -/
def send (src : Memref sig .tc .vmem S1024x2048 .bf16) (hs : src.IsWhole) (dst : Memref sig .tc .vmem S1024x2048 .bf16)
    (hd : dst.IsWhole) (d : Dev nD) (ss rs : DmaSems sig S4) (i : Fin 4) : Code F PUnit :=
  Prog.lift (.enqueueDma (chunk src i) (.remote (Dev.tc d) (chunk dst i) (.dma (semAt ss i))) (.dma (semAt rs i))
    (hs.wordExact_slice rfl _ (rowWords i)) (hd.wordExact_slice rfl _ (rowWords i)) ⟨⟨rfl, Or.inl rfl⟩, trivial⟩)

/-- Chunk `i`'s two copies. -/
def sendStep (d : Dev nD) (i : Fin 4) : Code F PUnit :=
  send kM (Memref.isWhole_whole _) krM (Memref.isWhole_whole _) (kDev d i) cc0_scratch3 cc0_scratch4 i >>= fun _ =>
  send vM (Memref.isWhole_whole _) vrM (Memref.isWhole_whole _) (vDev d i) cc0_scratch5 cc0_scratch6 i

/-- Wait for a chunk's bytes on semaphore `i` of `a`. -/
def await (a : DmaSems sig S4) (src : Memref sig .tc .vmem S1024x2048 .bf16) (hs : src.IsWhole)
    (dst : Memref sig .tc .vmem S1024x2048 .bf16) (hd : dst.IsWhole) (i : Fin 4) : Code F PUnit :=
  Prog.lift (.waitDma2 (semAt a i) (chunk src i) (chunk dst i)
    (hs.wordExact_slice rfl _ (rowWords i)) (hd.wordExact_slice rfl _ (rowWords i)))

/-- Chunk `i`'s four waits. -/
def awaitStep (i : Fin 4) : Code F PUnit :=
  await cc0_scratch3 krM (Memref.isWhole_whole _) kM (Memref.isWhole_whole _) i >>= fun _ =>
  await cc0_scratch4 kM (Memref.isWhole_whole _) krM (Memref.isWhole_whole _) i >>= fun _ =>
  await cc0_scratch5 vrM (Memref.isWhole_whole _) vM (Memref.isWhole_whole _) i >>= fun _ =>
  await cc0_scratch6 vM (Memref.isWhole_whole _) vrM (Memref.isWhole_whole _) i

/-- Read head `h`'s columns. -/
def readCol {e : EltTy} (m : Memref sig .tc .vmem S1024x2048 e) (h : Fin 16) : Code F (Vec F S1024x128 e) :=
  Prog.lift (.load m (colR h).toLoadRect (View.loadsAt_vmem h_S1024x128))
/-- Read chunk `i`'s rows at head `h`'s columns. -/
def readTile (m : Memref sig .tc .vmem S1024x2048 .bf16) (i : Fin 4) (h : Fin 16) : Code F (Vec F S256x128 .bf16) :=
  Prog.lift (.load m (tileR i h).toLoadRect (View.loadsAt_vmem h_S256x128))
/-- Read head `h`'s denominators. -/
def readDen (h : Fin 16) : Code F (Vec F S1024x1 .f32) :=
  Prog.lift (.load lM (denR h).toLoadRect (View.loadsAt_vmem h_S1024x1))
/-- Write head `h`'s columns of the output. -/
def writeOut (h : Fin 16) (w : Vec F S1024x128 .f32) : Code F PUnit :=
  Prog.lift (.store oM (colR h) w Finset.univ (View.stores_vmem_bits_univ h_S1024x128 rfl) (.inl rfl))
/-- Write head `h`'s denominators. -/
def writeDen (h : Fin 16) (w : Vec F S1024x1 .f32) : Code F PUnit :=
  Prog.lift (.store lM (denR h) w Finset.univ (View.stores_vmem_bits_univ h_S1024x1 rfl) (.inl rfl))

/-! ## What the steps compute -/

/-- The weights of the device's own keys. -/
def weights (q k : Vec F S1024x128 .bf16) : FVec F S1024x1024 .bf16 :=
  truncf .bf16 (exp (matmul dot_S1024x128_S1024x128_S1024x1024_1_1_0_0_n_n none
    (shapeCast S1024x128 q shapeCasts_S1024x128_S1024x128) (shapeCast S1024x128 k shapeCasts_S1024x128_S1024x128)
    (constant S1024x1024 .f32 0x00000000#32))) bitsLt_bf16_f32
/-- Their weighted sum of the device's own values. -/
def localOut (q k v : Vec F S1024x128 .bf16) : FVec F S1024x128 .f32 :=
  matmul dot_S1024x1024_S1024x128_S1024x128_1_0_0_1_n_n none (weights q k)
    (shapeCast S1024x128 v shapeCasts_S1024x128_S1024x128) (constant S1024x128 .f32 0x00000000#32)
/-- Their row sums. -/
def localDen (q k : Vec F S1024x128 .bf16) : FVec F S1024x1 .f32 :=
  shapeCast S1024x1 (matmul dot_S1024x1024_S1024x1_S1024x1_1_0_0_1_n_n none (weights q k)
    (broadcast S1024x1 (Scalar.ofBits .bf16 0x3F80#16)) (constant S1024x1 .f32 0x00000000#32)) shapeCasts_S1024x1_S1024x1

/-- The weights of a chunk of the partner's keys. -/
def tileWeights (q : Vec F S1024x128 .bf16) (k : Vec F S256x128 .bf16) : FVec F S1024x256 .bf16 :=
  truncf .bf16 (exp (matmul dot_S1024x128_S256x128_S1024x256_1_1_0_0_n_n none
    (shapeCast S1024x128 q shapeCasts_S1024x128_S1024x128) k (constant S1024x256 .f32 0x00000000#32))) bitsLt_bf16_f32
/-- Their weighted sum of the chunk's values, added to what was there. -/
def tileOut (q : Vec F S1024x128 .bf16) (k v : Vec F S256x128 .bf16) (o : Vec F S1024x128 .f32) : FVec F S1024x128 .f32 :=
  addf (shapeCast S1024x128 o shapeCasts_S1024x128_S1024x128)
    (matmul dot_S1024x256_S256x128_S1024x128_1_0_0_1_n_n none (tileWeights q k) v (constant S1024x128 .f32 0x00000000#32))
/-- Their row sums, added to what was there. -/
def tileDen (q : Vec F S1024x128 .bf16) (k : Vec F S256x128 .bf16) (l : Vec F S1024x1 .f32) : FVec F S1024x1 .f32 :=
  shapeCast S1024x1 (addf l (matmul dot_S1024x256_S256x1_S1024x1_1_0_0_1_n_n none (tileWeights q k)
    (broadcast S256x1 (Scalar.ofBits .bf16 0x3F80#16)) (constant S1024x1 .f32 0x00000000#32))) shapeCasts_S1024x1_S1024x1
/-- The sum over the denominators. -/
def quotient (o : Vec F S1024x128 .f32) (l : Vec F S1024x1 .f32) : FVec F S1024x128 .f32 :=
  divf (shapeCast S1024x128 o shapeCasts_S1024x128_S1024x128) (broadcastTo S1024x128 l broadcasts_S1024x1_S1024x128)

/-- Head `h` against the device's own keys. -/
def localStep (h : Fin 16) : Code F PUnit :=
  readCol qM h >>= fun q => readCol kM h >>= fun k => readCol vM h >>= fun v =>
  readCol oM h >>= fun _ => writeOut h (localOut q k v) >>= fun _ =>
  readDen h >>= fun _ => writeDen h (localDen q k)

/-- Head `h` against chunk `i` of the partner's keys. -/
def tileStep (i : Fin 4) (h : Fin 16) : Code F PUnit :=
  readCol qM h >>= fun q => readTile krM i h >>= fun k => readCol oM h >>= fun o => readTile vrM i h >>= fun v =>
  readCol oM h >>= fun _ => writeOut h (tileOut q k v o) >>= fun _ =>
  readDen h >>= fun l => readDen h >>= fun _ => writeDen h (tileDen q k l)

/-- Head `h`'s quotient. -/
def divStep (h : Fin 16) : Code F PUnit :=
  readCol oM h >>= fun o => readDen h >>= fun l => readCol oM h >>= fun _ => writeOut h (quotient o l)

/-- A chunk: its waits, then every head against it. -/
def chunkStep (i : Fin 4) : Code F PUnit :=
  awaitStep i >>= fun _ => each (tileStep i) heads

/-- The barrier semaphore. -/
abbrev barS : Sems sig S_ := SemArray.scalar (sig.barrier 0 rfl)

/-- The handshake: signal the partner, wait for its signal. -/
def handshake (d : Dev nD) : Code F PUnit :=
  semSignalWord (⟨k0_dev1 d, k0_dev1_lt d⟩ : Dev nD) barS.sem 1#32 >>= fun _ =>
  semWaitWord barS.sem 1#32

/-- The whole body. -/
def program : Code F PUnit :=
  Prog.lift .deviceId >>= fun d => handshake d >>= fun _ => each (sendStep d) chunks >>= fun _ =>
  each localStep heads >>= fun _ => each chunkStep chunks >>= fun _ => each divStep heads

set_option maxRecDepth 65536 in
/-- The printed body is the program of steps. -/
theorem body_eq : cc0_body (F := F) qM (Memref.isWhole_whole _) kM (Memref.isWhole_whole _) vM (Memref.isWhole_whole _)
    oM (Memref.isWhole_whole _) krM (Memref.isWhole_whole _) vrM (Memref.isWhole_whole _) lM (Memref.isWhole_whole _)
    cc0_scratch3 cc0_scratch4 cc0_scratch5 cc0_scratch6 = program := by
  chain_rfl

end Cert.KernelIdeal.Flow

end
-- ==== Proof.Steps.lean ====
/- The rules of the compute steps: each step at a symbolic head (and chunk), from the buffers it reads and writes to the
   same buffers with its head's columns rewritten; and the rule of a list of steps. -/
module

public import proofs.«01_k».proof.Proof.Program
public import Idealize.ShloMosaic.Lib.Pipeline.Regions
public import Idealize.ShloMosaic.Lib.Pipeline.Kit
public import Idealize.ShloMosaic.Lib.Rounds
public import Idealize.ShloMosaic.Lib.Tactic

@[expose] public section

noncomputable section

namespace Cert.KernelIdeal.Flow

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The pipeline's copy of the round algebra and the exchange's. -/
abbrev UU : Type := UR sig nD τ × UR sig nD τ

local notation "𝕄" => MT nD τ sig Unit (Elt F) ℕ UU ℕ

abbrev 𝒱₀ : Variants := Variants.none

/-! ## Contents -/

/-- Contents of the half-precision blocks, read as arrays. -/
abbrev Blk (F : FTy → Type) := S1024x2048.Idx → Elt F .bf16
/-- Contents of the output. -/
abbrev OutB (F : FTy → Type) := S1024x2048.Idx → Elt F .f32
/-- Contents of the denominators. -/
abbrev DenB (F : FTy → Type) := S1024x16.Idx → Elt F .f32

/-- Head `h`'s columns of an array. -/
def col {e : EltTy} (f : S1024x2048.Idx → Elt F e) (h : Fin 16) : Vec F S1024x128 e := fun x => f ((colR h).emb x)
/-- Chunk `i`'s rows at head `h`'s columns. -/
def tile (f : Blk F) (i : Fin 4) (h : Fin 16) : Vec F S256x128 .bf16 := fun x => f ((tileR i h).emb x)
/-- Head `h`'s denominators. -/
def den (l : DenB F) (h : Fin 16) : Vec F S1024x1 .f32 := fun x => l ((denR h).emb x)

/-- The output with head `h`'s columns rewritten. -/
def putCol (o : OutB F) (h : Fin 16) (w : Vec F S1024x128 .f32) : OutB F := (oM.access (colR h)).write (Elt F) o w Finset.univ
/-- The denominators with head `h`'s rewritten. -/
def putDen (l : DenB F) (h : Fin 16) (w : Vec F S1024x1 .f32) : DenB F := (lM.access (denR h)).write (Elt F) l w Finset.univ

/-! ## The buffers held -/

/-- The queries, at share `s`. -/
abbrev qPt (c : Dev nD) (f : Blk F) : sProp 𝕄 := qM.view.loc (c : Thread nD τ) ↦{fullShare} f
/-- The half of the device's own keys it keeps. -/
abbrev kPt (c : Dev nD) (s : PosShare TreeShare) (f : Blk F) : sProp 𝕄 := kM.view.loc (c : Thread nD τ) ↦{s} f
/-- The half of the device's own values it keeps. -/
abbrev vPt (c : Dev nD) (s : PosShare TreeShare) (f : Blk F) : sProp 𝕄 := vM.view.loc (c : Thread nD τ) ↦{s} f
/-- The output. -/
abbrev oPt (c : Dev nD) (f : OutB F) : sProp 𝕄 := oM.view.loc (c : Thread nD τ) ↦{fullShare} f
/-- The denominators. -/
abbrev lPt (c : Dev nD) (f : DenB F) : sProp 𝕄 := lM.view.loc (c : Thread nD τ) ↦{fullShare} f
/-- Chunk `i` of the landed keys. -/
abbrev krPt (c : Dev nD) (i : Fin 4) (f : Blk F) : sProp 𝕄 :=
  (chunk krM i).view.loc (c : Thread nD τ) ↦[(chunk krM i).view.set]{fullShare} f
/-- Chunk `i` of the landed values. -/
abbrev vrPt (c : Dev nD) (i : Fin 4) (f : Blk F) : sProp 𝕄 :=
  (chunk vrM i).view.loc (c : Thread nD τ) ↦[(chunk vrM i).view.set]{fullShare} f

/-- The output and the denominators as one state. -/
abbrev St (F : FTy → Type) := OutB F × DenB F

/-- What head `h` against the device's own keys leaves. -/
def localNext (q k v : Blk F) (h : Fin 16) (s : St F) : St F :=
  (putCol s.1 h (localOut (col q h) (col k h) (col v h)), putDen s.2 h (localDen (col q h) (col k h)))
/-- What head `h` against chunk `i` leaves. -/
def tileNext (q kr vr : Blk F) (i : Fin 4) (h : Fin 16) (s : St F) : St F :=
  (putCol s.1 h (tileOut (col q h) (tile kr i h) (tile vr i h) (col s.1 h)),
    putDen s.2 h (tileDen (col q h) (tile kr i h) (den s.2 h)))
/-- What head `h`'s quotient leaves. -/
def divNext (h : Fin 16) (s : St F) : St F := (putCol s.1 h (quotient (col s.1 h) (den s.2 h)), s.2)

/-- The output and the denominators held. -/
abbrev stPt (c : Dev nD) (s : St F) : sProp 𝕄 := iprop(oPt c s.1 ∗ lPt c s.2)

/-! ## The rule of a list of steps -/

/-- A list of steps, each moving the state held by `I` along `g`, moves it along the fold. -/
theorem wp_each {A S : Type} (c : Dev nD) (f : A → Code F PUnit) (I : S → sProp 𝕄) (g : A → S → S)
    (hf : ∀ a s (Kt : PUnit → sProp 𝕄), iprop(I s ∗ (I (g a s) -∗ Kt ⟨⟩))
      ⊢ wp frame (wpE (defs₀ (F := F)) 𝒱₀ c none) Set.univ (f a) Kt) :
    ∀ (l : List A) (s : S) (Kt : PUnit → sProp 𝕄), iprop(I s ∗ (I (l.foldl (fun s a => g a s) s) -∗ Kt ⟨⟩))
      ⊢ wp frame (wpE (defs₀ (F := F)) 𝒱₀ c none) Set.univ (each f l) Kt
  | [], s, Kt => by
    show _ ⊢ wp frame (wpE (defs₀ (F := F)) 𝒱₀ c none) Set.univ (.ret ⟨⟩) Kt
    rw [wp_ret]
    iintro ⟨H, Hk⟩
    imodintro
    iapply Hk
    rw [List.foldl_nil]
    iexact H
  | a :: l, s, Kt => by
    show _ ⊢ wp frame (wpE (defs₀ (F := F)) 𝒱₀ c none) Set.univ (f a >>= fun _ => each f l) Kt
    rw [wp_bind]
    iintro ⟨H, Hk⟩
    iapply (hf a s)
    isplitl [H]; · iexact H
    iintro H
    iapply (wp_each c f I g hf l (g a s) Kt)
    isplitl [H]; · iexact H
    iexact Hk

/-! ## The compute steps -/

theorem tile_sub (m : Memref sig .tc .vmem S1024x2048 .bf16) (i : Fin 4) (h : Fin 16) :
    m.view.setOn (tileR i h).toLoadRect.set ⊆ (chunk m i).view.set := by
  have hs : (tileR i h).set ⊆ (rowR i).set := by
    intro x hx
    rw [Rect.mem_set_unit] at hx ⊢
    intro a
    have := hx a
    fin_cases a
    · exact this
    · have hh := h.isLt
      have h1 : 128 * h.val ≤ (x 1).val ∧ (x 1).val < 128 * h.val + 128 := this
      show 0 ≤ (x 1).val ∧ (x 1).val < 0 + 2048
      omega
  intro y hy
  rw [show (chunk m i).view.set = (m.view.slice (rowR i)).set from rfl, View.set_slice]
  exact Finset.map_subset_map.mpr hs hy

set_option maxHeartbeats 800000 in
/-- Head `h` against the device's own keys. -/
theorem wp_localStep (c : Dev nD) (sk sv : PosShare TreeShare) (q k v : Blk F) (h : Fin 16) (s : St F) (Kt : PUnit → sProp 𝕄) :
    iprop((qPt c q ∗ kPt c sk k ∗ vPt c sv v ∗ stPt c s) ∗ ((qPt c q ∗ kPt c sk k ∗ vPt c sv v ∗ stPt c (localNext q k v h s)) -∗ Kt ⟨⟩))
      ⊢ wp frame (wpE (defs₀ (F := F)) 𝒱₀ c none) Set.univ (localStep h) Kt := by
  simp only [localStep, readCol, writeOut, readDen, writeDen, Prog.lift, Prog.bind_op, Prog.bind_ret]
  iintro ⟨⟨Hq, Hk, Hv, Ho, Hl⟩, HK⟩
  iapply (wp_load 𝒱₀ (c : Thread nD τ) none Set.univ (m := qM) (Finset.subset_univ _)) $$ Hq; iintro Hq
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := oM) (Finset.subset_univ _)) $$ Ho; iintro Ho
  iapply (wp_store 𝒱₀ (c : Thread nD τ) none Set.univ (m := oM) (r := colR h) (f := s.1) (Finset.subset_univ _)) $$ Ho; iintro Ho
  iapply (wp_load 𝒱₀ (c : Thread nD τ) none Set.univ (m := lM) (Finset.subset_univ _)) $$ Hl; iintro Hl
  iapply (wp_store 𝒱₀ (c : Thread nD τ) none Set.univ (m := lM) (r := denR h) (f := s.2) (Finset.subset_univ _)) $$ Hl; iintro Hl
  rw [wp_ret]
  imodintro
  iapply HK
  isplitl [Hq]; · iexact Hq
  isplitl [Hk]; · iexact Hk
  isplitl [Hv]; · iexact Hv
  isplitl [Ho]; · iexact Ho
  iexact Hl

set_option maxHeartbeats 800000 in
/-- Head `h` against chunk `i` of the partner's keys. -/
theorem wp_tileStep (c : Dev nD) (q kr vr : Blk F) (i : Fin 4) (h : Fin 16) (s : St F) (Kt : PUnit → sProp 𝕄) :
    iprop((qPt c q ∗ krPt c i kr ∗ vrPt c i vr ∗ stPt c s) ∗ ((qPt c q ∗ krPt c i kr ∗ vrPt c i vr ∗ stPt c (tileNext q kr vr i h s)) -∗ Kt ⟨⟩))
      ⊢ wp frame (wpE (defs₀ (F := F)) 𝒱₀ c none) Set.univ (tileStep i h) Kt := by
  simp only [tileStep, readCol, readTile, writeOut, readDen, writeDen, Prog.lift, Prog.bind_op, Prog.bind_ret]
  iintro ⟨⟨Hq, Hk, Hv, Ho, Hl⟩, HK⟩
  iapply (wp_load 𝒱₀ (c : Thread nD τ) none Set.univ (m := qM) (Finset.subset_univ _)) $$ Hq; iintro Hq
  iapply (wp_load 𝒱₀ (c : Thread nD τ) none Set.univ (m := krM) (tile_sub krM i h)) $$ Hk; iintro Hk
  iapply (wp_load 𝒱₀ (c : Thread nD τ) none Set.univ (m := oM) (Finset.subset_univ _)) $$ Ho; iintro Ho
  iapply (wp_load 𝒱₀ (c : Thread nD τ) none Set.univ (m := vrM) (tile_sub vrM i h)) $$ Hv; iintro Hv
  iapply (wp_load 𝒱₀ (c : Thread nD τ) none Set.univ (m := oM) (Finset.subset_univ _)) $$ Ho; iintro Ho
  iapply (wp_store 𝒱₀ (c : Thread nD τ) none Set.univ (m := oM) (r := colR h) (f := s.1) (Finset.subset_univ _)) $$ Ho; iintro Ho
  iapply (wp_load 𝒱₀ (c : Thread nD τ) none Set.univ (m := lM) (Finset.subset_univ _)) $$ Hl; iintro Hl
  iapply (wp_load 𝒱₀ (c : Thread nD τ) none Set.univ (m := lM) (Finset.subset_univ _)) $$ Hl; iintro Hl
  iapply (wp_store 𝒱₀ (c : Thread nD τ) none Set.univ (m := lM) (r := denR h) (f := s.2) (Finset.subset_univ _)) $$ Hl; iintro Hl
  rw [wp_ret]
  imodintro
  iapply HK
  isplitl [Hq]; · iexact Hq
  isplitl [Hk]; · iexact Hk
  isplitl [Hv]; · iexact Hv
  isplitl [Ho]; · iexact Ho
  iexact Hl

set_option maxHeartbeats 800000 in
/-- Head `h`'s quotient. -/
theorem wp_divStep (c : Dev nD) (h : Fin 16) (s : St F) (Kt : PUnit → sProp 𝕄) :
    iprop(stPt c s ∗ (stPt c (divNext h s) -∗ Kt ⟨⟩))
      ⊢ wp frame (wpE (defs₀ (F := F)) 𝒱₀ c none) Set.univ (divStep h) Kt := by
  simp only [divStep, readCol, writeOut, readDen, Prog.lift, Prog.bind_op, Prog.bind_ret]
  iintro ⟨⟨Ho, Hl⟩, HK⟩
  iapply (wp_load 𝒱₀ (c : Thread nD τ) none Set.univ (m := oM) (Finset.subset_univ _)) $$ Ho; iintro Ho
  iapply (wp_load 𝒱₀ (c : Thread nD τ) none Set.univ (m := lM) (Finset.subset_univ _)) $$ Hl; iintro Hl
  iapply (wp_load 𝒱₀ (c : Thread nD τ) none Set.univ (m := oM) (Finset.subset_univ _)) $$ Ho; iintro Ho
  iapply (wp_store 𝒱₀ (c : Thread nD τ) none Set.univ (m := oM) (r := colR h) (f := s.1) (Finset.subset_univ _)) $$ Ho; iintro Ho
  rw [wp_ret]
  imodintro
  iapply HK
  isplitl [Ho]; · iexact Ho
  iexact Hl

/-- Every head against the device's own keys. -/
theorem wp_locals (c : Dev nD) (sk sv : PosShare TreeShare) (q k v : Blk F) (s : St F) (Kt : PUnit → sProp 𝕄) :
    iprop((qPt c q ∗ kPt c sk k ∗ vPt c sv v ∗ stPt c s)
        ∗ ((qPt c q ∗ kPt c sk k ∗ vPt c sv v ∗ stPt c (heads.foldl (fun s h => localNext q k v h s) s)) -∗ Kt ⟨⟩))
      ⊢ wp frame (wpE (defs₀ (F := F)) 𝒱₀ c none) Set.univ (each localStep heads) Kt :=
  wp_each c localStep (fun s => iprop(qPt c q ∗ kPt c sk k ∗ vPt c sv v ∗ stPt c s)) (localNext q k v)
    (fun h s Kt => wp_localStep c sk sv q k v h s Kt) heads s Kt

/-- Every head against chunk `i`. -/
theorem wp_tiles (c : Dev nD) (q kr vr : Blk F) (i : Fin 4) (s : St F) (Kt : PUnit → sProp 𝕄) :
    iprop((qPt c q ∗ krPt c i kr ∗ vrPt c i vr ∗ stPt c s)
        ∗ ((qPt c q ∗ krPt c i kr ∗ vrPt c i vr ∗ stPt c (heads.foldl (fun s h => tileNext q kr vr i h s) s)) -∗ Kt ⟨⟩))
      ⊢ wp frame (wpE (defs₀ (F := F)) 𝒱₀ c none) Set.univ (each (tileStep i) heads) Kt :=
  wp_each c (tileStep i) (fun s => iprop(qPt c q ∗ krPt c i kr ∗ vrPt c i vr ∗ stPt c s)) (tileNext q kr vr i)
    (fun h s Kt => wp_tileStep c q kr vr i h s Kt) heads s Kt

/-- Every head's quotient. -/
theorem wp_divs (c : Dev nD) (s : St F) (Kt : PUnit → sProp 𝕄) :
    iprop(stPt c s ∗ (stPt c (heads.foldl (fun s h => divNext h s) s) -∗ Kt ⟨⟩))
      ⊢ wp frame (wpE (defs₀ (F := F)) 𝒱₀ c none) Set.univ (each divStep heads) Kt :=
  wp_each c divStep (fun s => stPt c s) divNext (fun h s Kt => wp_divStep c h s Kt) heads s Kt

end Cert.KernelIdeal.Flow

end
-- ==== Proof.Protocol.lean ====
/- The exchange's schedule. Devices come in pairs. Each device tells its partner that its two landing buffers may be
   written (the handshake), then copies its keys and values there, a quarter at a time; each quarter has its own pair of
   semaphores for the keys and another for the values. A device lends half of its share of what it sends and computes
   with the other half meanwhile. -/
module

public import proofs.«01_k».proof.Proof.Steps
public import proofs.«01_k».proof.Proof.Gen.KernelIdeal.Launch
public import Idealize.ShloMosaic.Lib.Pipeline.BigSepL

@[expose] public section

noncomputable section

namespace Cert.KernelIdeal.Flow

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The exchange's copy of the round algebra. -/
abbrev ER : Emb (UR sig nD τ) (MT nD τ sig Unit (Elt F) ℕ UU ℕ) := embR
/-- The pipeline's. -/
abbrev EP : Emb (UR sig nD τ) (MT nD τ sig Unit (Elt F) ℕ UU ℕ) := embL

/-! ## Partners and cells -/

/-- The partner of a device: the other end of the first mesh axis. -/
def pr (c : Dev nD) : Dev nD := ⟨(c.val + 4) % 8, Nat.mod_lt _ (by decide)⟩
theorem pr_pr (c : Dev nD) : pr (pr c) = c := by revert c; decide
/-- Partners, as a permutation of the devices. -/
def swap : Dev nD ≃ Dev nD := ⟨pr, pr, pr_pr, pr_pr⟩

theorem dev1_pr (c : Dev nD) : (⟨k0_dev1 c, k0_dev1_lt c⟩ : Dev nD) = pr c := by revert c; decide
theorem kDev_pr (c : Dev nD) (i : Fin 4) : kDev c i = pr c := by revert c i; decide
theorem vDev_pr (c : Dev nD) (i : Fin 4) : vDev c i = pr c := by revert c i; decide

/-- The four semaphores of a chunk: keys sent, keys landed, values sent, values landed. -/
abbrev arr : Fin 4 → DmaSems sig S4
  | 0 => cc0_scratch3
  | 1 => cc0_scratch4
  | 2 => cc0_scratch5
  | 3 => cc0_scratch6

/-- A copy semaphore by chunk and kind. -/
abbrev Slot := Fin 4 × Fin 4
/-- Its place. -/
abbrev sem (p : Slot) : SemLoc sig := .dma (semAt (arr p.2) p.1)
/-- Its cell on device `c`. -/
abbrev cell (c : Dev nD) (p : Slot) : GSem nD τ sig := ((c : Thread nD τ), sem p)
/-- The handshake's cell on device `c`. -/
abbrev barCell (c : Dev nD) : GSem nD τ sig := ((c : Thread nD τ), .reg barS.sem)

/-- The slot a semaphore is. -/
def slotOf (s : DmaSem sig) : Slot := (⟨s.val % 4, Nat.mod_lt _ (by decide)⟩, ⟨s.val / 4 - 1, by have : s.val < 20 := s.isLt; omega⟩)
theorem slotOf_sem : ∀ p : Slot, slotOf (semAt (arr p.2) p.1) = p := by decide
theorem sem_inj : Function.Injective sem := fun p p' h => by
  have h' : semAt (arr p.2) p.1 = semAt (arr p'.2) p'.1 := SemLoc.dma.inj h
  rw [← slotOf_sem p, h', slotOf_sem]
theorem sem_ne_bar (p : Slot) : sem p ≠ .reg barS.sem := fun h => by cases h

/-- What one chunk's copy pays. -/
abbrev N : ℕ := (chunk krM 0).view.dmaCredit
theorem N_pos : 0 < N := View.dmaCredit_pos _ (by decide)

/-! ## The schedule -/

/-- The share of what it sends that a device lends, and the share it keeps. -/
abbrev lent : PosShare TreeShare := PosShare.right fullShare
abbrev kept : PosShare TreeShare := PosShare.left fullShare

/-- Chunk `i` of the device's own keys, lent. -/
abbrev kcPt (c : Dev nD) (i : Fin 4) (f : Blk F) : sProp 𝕄 :=
  (chunk kM i).view.loc (c : Thread nD τ) ↦[(chunk kM i).view.set]{lent} f
/-- Chunk `i` of the device's own values, lent. -/
abbrev vcPt (c : Dev nD) (i : Fin 4) (f : Blk F) : sProp 𝕄 :=
  (chunk vM i).view.loc (c : Thread nD τ) ↦[(chunk vM i).view.set]{lent} f

variable (kB vB : Dev nD → Blk F)

/-- Chunk `i` of both landing buffers, at contents not chosen. -/
def landing (c : Dev nD) (i : Fin 4) : sProp 𝕄 := iprop((∃ f, krPt c i f) ∗ (∃ f, vrPt c i f))
/-- Every copy semaphore of device `c` is at its first round. -/
def ready (c : Dev nD) : sProp 𝕄 := bigSep Finset.univ fun p : Slot => reached ER (cell c p) 0
instance ready_persistent (c : Dev nD) : BI.Persistent (ready (F := F) c) := by unfold ready; infer_instance
/-- What the handshake hands to device `c`: its partner's landing buffers, ready. -/
def barPay (c : Dev nD) : sProp 𝕄 := iprop(bigSep Finset.univ (landing (pr c)) ∗ ready (pr c))
/-- What a chunk's copy hands to device `c`: what was lent, back; or the partner's rows, landed. -/
def pay (c : Dev nD) (i : Fin 4) : Fin 4 → sProp 𝕄
  | 0 => kcPt c i (kB c)
  | 1 => krPt c i (kB (pr c))
  | 2 => vcPt c i (vB c)
  | 3 => vrPt c i (vB (pr c))

instance landing_storable (c : Dev nD) (i : Fin 4) : BI.Storable (upEmb : UEmb _ 𝕄) (landing (F := F) c i) := by
  unfold landing; infer_instance
instance barPay_storable (c : Dev nD) : BI.Storable (upEmb : UEmb _ 𝕄) (barPay (F := F) c) := by
  unfold barPay ready; infer_instance
instance pay_storable (c : Dev nD) (i w : Fin 4) : BI.Storable (upEmb : UEmb _ 𝕄) (pay kB vB c i w) :=
  match w with
  | 0 => by unfold pay; infer_instance
  | 1 => by unfold pay; infer_instance
  | 2 => by unfold pay; infer_instance
  | 3 => by unfold pay; infer_instance

/-- One round, one payment per cell. -/
def rd : Rounds.Schedule (GSem nD τ sig) Unit 𝕄 where
  duties _ r := if r = 0 then {()} else ∅
  unitless _ := False
  amount g _ _ := match g.2 with | .reg _ => 1 | .dma _ => N
  payload g _ _ := match g.2 with
    | .reg _ => barPay g.1.1
    | .dma s => pay kB vB g.1.1 (slotOf s).1 (slotOf s).2
  amount_pos g _ _ _ := by split; exacts [Nat.one_pos, N_pos]

instance rd_payload_storable (g : GSem nD τ sig) (r : ℕ) (d : Unit) :
    BI.Storable (upEmb : UEmb _ 𝕄) ((rd kB vB).payload g r d) := by
  obtain ⟨t, s⟩ := g
  cases s with
  | reg s => exact barPay_storable t.1
  | dma s => exact pay_storable kB vB t.1 (slotOf s).1 (slotOf s).2

theorem duty_mem (g : GSem nD τ sig) : () ∈ (rd kB vB).duties g 0 := Finset.mem_singleton_self _
theorem duties_zero (g : GSem nD τ sig) : (rd kB vB).duties g 0 = {()} := rfl
theorem duties_later (g : GSem nD τ sig) (r : ℕ) (hr : 1 ≤ r) : (rd kB vB).duties g r = ∅ := if_neg (by omega)
theorem expect_bar (c : Dev nD) : (rd kB vB).expect (barCell c) 0 = 1 := by
  unfold Schedule.expect Schedule.amountOf; rw [duties_zero, Finset.sum_singleton]; rfl
theorem expect_cell (c : Dev nD) (p : Slot) : (rd kB vB).expect (cell c p) 0 = N := by
  unfold Schedule.expect Schedule.amountOf; rw [duties_zero, Finset.sum_singleton]; rfl
theorem payload_bar (c : Dev nD) : (rd kB vB).payload (barCell c) 0 () = barPay c := rfl
theorem payload_cell (c : Dev nD) (i w : Fin 4) : (rd kB vB).payload (cell c (i, w)) 0 () = pay kB vB c i w := by
  show pay kB vB c (slotOf (semAt (arr w) i)).1 (slotOf (semAt (arr w) i)).2 = _
  rw [slotOf_sem (i, w)]
theorem rest_bar (c : Dev nD) : bigSep ((rd kB vB).duties (barCell c) 0 \ ∅) (fun u => (rd kB vB).payload (barCell c) 0 u) = barPay c := by
  rw [Finset.sdiff_empty, duties_zero, bigSep_singleton, payload_bar]
theorem rest_cell (c : Dev nD) (i w : Fin 4) :
    bigSep ((rd kB vB).duties (cell c (i, w)) 0 \ ∅) (fun u => (rd kB vB).payload (cell c (i, w)) 0 u) = pay kB vB c i w := by
  rw [Finset.sdiff_empty, duties_zero, bigSep_singleton, payload_cell]

/-! ## What each core owes, and the levels -/

/-- The partner's landings of a list of chunks, still owed. -/
def owe (c : Dev nD) : List (Fin 4) → CellTallies nD τ sig Unit
  | [] => 0
  | i :: l => (owe c l + tallyAt (cell (pr c) (i, 3)) () N) + tallyAt (cell (pr c) (i, 1)) () N
/-- At launch: every landing and the handshake. -/
def O₀ (c : Dev nD) : CellTallies nD τ sig Unit := owe c chunks + tallyAt (barCell (pr c)) () 1

def L (g : GSem nD τ sig) : Finset Unit := if g.1.2 = .tc then {()} else ∅
/-- The handshake at 1, the copy semaphores at 2, the pipeline's own at 0. -/
def lv (g : GSem nD τ sig) (_ : Unit) : ℕ := match g.2 with | .reg _ => 1 | .dma s => if 4 ≤ s.val then 2 else 0

theorem L_of_ne (g : GSem nD τ sig) (h : g.1.2 ≠ .tc) : L g = ∅ := if_neg h
theorem mem_L (c : Dev nD) (sm : SemLoc sig) : () ∈ L ((c : Thread nD τ), sm) := Finset.mem_singleton_self _
theorem lv_cell (c : Dev nD) (p : Slot) : lv (cell c p) () = 2 :=
  if_pos (by revert p; decide)

theorem owe_pos {c : Dev nD} {g : GSem nD τ sig} {u : Unit} : ∀ {l : List (Fin 4)}, 0 < owe c l g u → ∃ p : Slot, g = cell (pr c) p
  | [], h => absurd h (Nat.lt_irrefl 0)
  | i :: l, h => by
    rcases Pipeline.add_pos_cases h with h | h
    · rcases Pipeline.add_pos_cases h with h | h
      · exact owe_pos h
      · exact ⟨_, (Pipeline.tallyAt_pos h).1⟩
    · exact ⟨_, (Pipeline.tallyAt_pos h).1⟩
theorem O₀_pos {c : Dev nD} {g : GSem nD τ sig} {u : Unit} (h : 0 < O₀ c g u) : (∃ p : Slot, g = cell (pr c) p) ∨ g = barCell (pr c) := by
  rcases Pipeline.add_pos_cases h with h | h
  · exact .inl (owe_pos h)
  · exact .inr (Pipeline.tallyAt_pos h).1

theorem mayWait_bar (c : Dev nD) : (levAts L lv : sProp 𝕄) ⊢ MayWait (c : Thread nD τ) (.reg barS.sem) () (owe c chunks) :=
  Pipeline.mayWait_of_levAts (mem_L c _) fun g u hg => by
    obtain ⟨p, rfl⟩ := owe_pos hg
    exact ⟨mem_L _ _, by rw [lv_cell]; exact Nat.one_lt_two⟩

/-! ## The exchange's ghost state -/

/-- Every cell of device `c` has its invariant, at the names `K`. -/
def cellsOf (K : GSem nD τ sig → ℕ) (c : Dev nD) : sProp 𝕄 :=
  iprop(cellInv ER (rd kB vB) (K (barCell c)) (barCell c)
    ∗ bigSep Finset.univ fun p : Slot => cellInv ER (rd kB vB) (K (cell c p)) (cell c p))
/-- A device uses its own cells and its partner's. -/
def invs (K : GSem nD τ sig → ℕ) (c : Dev nD) : sProp 𝕄 := iprop(cellsOf kB vB K c ∗ cellsOf kB vB K (pr c))
instance cellsOf_persistent (K : GSem nD τ sig → ℕ) (c : Dev nD) : BI.Persistent (cellsOf kB vB K c) := by unfold cellsOf; infer_instance
instance invs_persistent (K : GSem nD τ sig → ℕ) (c : Dev nD) : BI.Persistent (invs kB vB K c) := by unfold invs; infer_instance

/-- Where the copy on a chunk's semaphore of a kind completes. -/
def target (c : Dev nD) : Fin 4 → Dev nD
  | 0 => c
  | 1 => pr c
  | 2 => c
  | 3 => pr c
/-- The launch credit of a copy semaphore: the partner owes the landings. -/
def credOf (c : Dev nD) (i : Fin 4) : Fin 4 → sProp 𝕄
  | 0 => iprop(emp)
  | 1 => cred (tallyAt (cell c (i, 1)) () N)
  | 2 => iprop(emp)
  | 3 => cred (tallyAt (cell c (i, 3)) () N)

/-- What a device holds of the handshake. -/
def barOf (c : Dev nD) : sProp 𝕄 :=
  iprop(atPos ER (barCell c) 0 ∅ 0 ∗ cred (tallyAt (barCell c) () 1) ∗ dutyTok ER (barCell (pr c)) 0 () ∗ reached ER (barCell (pr c)) 0)
/-- What it holds of one copy semaphore beside its counter. -/
def slotOwn (c : Dev nD) (p : Slot) : sProp 𝕄 :=
  iprop(dutyTok ER (cell (target c p.2) p) 0 () ∗ credOf c p.1 p.2)

end Cert.KernelIdeal.Flow

end
-- ==== Proof.Body.lean ====
/- The kernel body run once, at a symbolic device: the handshake, the copies of the chunks out, the device's own keys, the
   chunks as they land, the quotients. Every semaphore is back at zero and every buffer back whole at the end. -/
module

public import proofs.«01_k».proof.Proof.Protocol
public import Idealize.ShloMosaic.Lib.Ring

@[expose] public section

noncomputable section

namespace Cert.KernelIdeal.Flow

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

/-! ## A buffer and its chunks -/

theorem chunk_set (m : Memref sig .tc .vmem S1024x2048 .bf16) (i : Fin 4) :
    (m.view.slice (rowR i)).set = (rowR i).set.map m.view.emb :=
  View.set_slice _ _

theorem rows_disjoint {i j : Fin 4} (h : i ≠ j) : Disjoint (rowR i).set (rowR j).set := by
  rw [Finset.disjoint_left]
  intro x hx hy
  rw [Rect.mem_set_unit] at hx hy
  have h1 : 256 * i.val ≤ (x 0).val ∧ (x 0).val < 256 * i.val + 256 := hx 0
  have h2 : 256 * j.val ≤ (x 0).val ∧ (x 0).val < 256 * j.val + 256 := hy 0
  exact h (Fin.ext (by omega))

theorem rows_cover (x : S1024x2048.Idx) : ∃ i : Fin 4, x ∈ (rowR i).set := by
  have hx : (x 0).val < 1024 := (x 0).isLt
  have hy : (x 1).val < 2048 := (x 1).isLt
  refine ⟨⟨(x 0).val / 256, by omega⟩, ?_⟩
  rw [Rect.mem_set_unit]
  intro a
  fin_cases a
  · show 256 * ((x 0).val / 256) ≤ (x 0).val ∧ (x 0).val < 256 * ((x 0).val / 256) + 256
    omega
  · show 0 ≤ (x 1).val ∧ (x 1).val < 0 + 2048
    omega

theorem chunks_disjoint (m : Memref sig .tc .vmem S1024x2048 .bf16) :
    ∀ i j : Fin 4, i ≠ j → Disjoint (m.view.slice (rowR i)).set (m.view.slice (rowR j)).set := fun i j h => by
  rw [chunk_set, chunk_set, Finset.disjoint_map]
  exact rows_disjoint h

theorem chunks_cover (m : Memref sig .tc .vmem S1024x2048 .bf16) (hm : m.view.set = Finset.univ) :
    Finset.biUnion (β := m.view.ty.Idx) (Finset.univ : Finset (Fin 4)) (fun i => (m.view.slice (rowR i)).set) = Finset.univ := by
  ext y
  simp only [Finset.mem_biUnion, Finset.mem_univ, true_and, iff_true]
  have hy : y ∈ m.view.set := by rw [hm]; exact Finset.mem_univ y
  obtain ⟨x, -, rfl⟩ := Finset.mem_map.mp hy
  obtain ⟨i, hi⟩ := rows_cover x
  exact ⟨i, by rw [chunk_set]; exact Finset.mem_map_of_mem _ hi⟩

/-- Own keys lent, chunk by chunk. -/
theorem k_chunks (c : Dev nD) (f : Blk F) : (kPt c lent f : sProp 𝕄) = bigSep Finset.univ fun i => kcPt c i f :=
  Ring.pointsTo_blocks (ℓ := kM.view.loc (c : Thread nD τ)) (fun i : Fin 4 => (kM.view.slice (rowR i)).set) (chunks_disjoint kM) (chunks_cover kM (View.set_whole _)) f
/-- Own values lent, chunk by chunk. -/
theorem v_chunks (c : Dev nD) (f : Blk F) : (vPt c lent f : sProp 𝕄) = bigSep Finset.univ fun i => vcPt c i f :=
  Ring.pointsTo_blocks (ℓ := vM.view.loc (c : Thread nD τ)) (fun i : Fin 4 => (vM.view.slice (rowR i)).set) (chunks_disjoint vM) (chunks_cover vM (View.set_whole _)) f

/-- The landing buffer of keys, whole. -/
abbrev krW (c : Dev nD) (f : Blk F) : sProp 𝕄 := krM.view.loc (c : Thread nD τ) ↦{fullShare} f
/-- The landing buffer of values, whole. -/
abbrev vrW (c : Dev nD) (f : Blk F) : sProp 𝕄 := vrM.view.loc (c : Thread nD τ) ↦{fullShare} f

theorem kr_chunks (c : Dev nD) (f : Blk F) : (krW c f : sProp 𝕄) = bigSep Finset.univ fun i => krPt c i f :=
  Ring.pointsTo_blocks (ℓ := krM.view.loc (c : Thread nD τ)) (fun i : Fin 4 => (krM.view.slice (rowR i)).set) (chunks_disjoint krM) (chunks_cover krM (View.set_whole _)) f
theorem vr_chunks (c : Dev nD) (f : Blk F) : (vrW c f : sProp 𝕄) = bigSep Finset.univ fun i => vrPt c i f :=
  Ring.pointsTo_blocks (ℓ := vrM.view.loc (c : Thread nD τ)) (fun i : Fin 4 => (vrM.view.slice (rowR i)).set) (chunks_disjoint vrM) (chunks_cover vrM (View.set_whole _)) f

/-- Both landing buffers, chunk by chunk. -/
theorem landing_split (c : Dev nD) (f g : Blk F) : iprop(krW c f ∗ vrW c g) ⊢ (bigSep Finset.univ (landing c) : sProp 𝕄) := by
  rw [kr_chunks, vr_chunks]
  rw [← bigSep_sep']
  refine bigSep_mono fun i _ => ?_
  show iprop(krPt c i f ∗ vrPt c i g) ⊢ (landing c i : sProp 𝕄)
  unfold landing
  iintro ⟨H1, H2⟩
  isplitl [H1]
  · iexists f; iexact H1
  · iexists g; iexact H2

/-- A share of a block is its two halves. -/
theorem k_halves (c : Dev nD) (f : Blk F) : (kPt c fullShare f : sProp 𝕄) ⊣⊢ iprop(kPt c kept f ∗ kPt c lent f) :=
  pointsTo_share (PosShare.mem_left_op_right fullShare)
theorem v_halves (c : Dev nD) (f : Blk F) : (vPt c fullShare f : sProp 𝕄) ⊣⊢ iprop(vPt c kept f ∗ vPt c lent f) :=
  pointsTo_share (PosShare.mem_left_op_right fullShare)

/-! ## The copies out -/

variable (kB vB : Dev nD → Blk F)

/-- A chunk written over by the same chunk of another block holds that block's rows. -/
theorem kr_written (c : Dev nD) (i : Fin 4) (f g : Blk F) :
    (krPt c i ((chunk krM i).view.write (Elt F) g ((chunk kM i).view.read (Elt F) f) Finset.univ) : sProp 𝕄) ⊢ krPt c i f :=
  Entails.of_eq (pointsTo_congr fun x hx => by
    obtain ⟨y, -, rfl⟩ := Finset.mem_map.mp hx
    rw [View.write_emb_of_mem _ _ (Finset.mem_univ y)]
    rfl)
theorem vr_written (c : Dev nD) (i : Fin 4) (f g : Blk F) :
    (vrPt c i ((chunk vrM i).view.write (Elt F) g ((chunk vM i).view.read (Elt F) f) Finset.univ) : sProp 𝕄) ⊢ vrPt c i f :=
  Entails.of_eq (pointsTo_congr fun x hx => by
    obtain ⟨y, -, rfl⟩ := Finset.mem_map.mp hx
    rw [View.write_emb_of_mem _ _ (Finset.mem_univ y)]
    rfl)

theorem cell_at (K : GSem nD τ sig → ℕ) (c : Dev nD) (p : Slot) :
    (bigSep Finset.univ fun p : Slot => (cellInv ER (rd kB vB) (K (cell c p)) (cell c p) : sProp 𝕄))
      ⊢ cellInv ER (rd kB vB) (K (cell c p)) (cell c p) := bigSep_elim (Finset.mem_univ p)
/-- An own cell's invariant. -/
theorem inv_own (K : GSem nD τ sig → ℕ) (c : Dev nD) (p : Slot) :
    (invs kB vB K c : sProp 𝕄) ⊢ cellInv ER (rd kB vB) (K (cell c p)) (cell c p) := by
  unfold invs cellsOf
  iintro ⟨⟨-, #H⟩, -⟩
  iapply (cell_at kB vB K c p) $$ H
/-- A partner's cell's invariant. -/
theorem inv_other (K : GSem nD τ sig → ℕ) (c : Dev nD) (p : Slot) :
    (invs kB vB K c : sProp 𝕄) ⊢ cellInv ER (rd kB vB) (K (cell (pr c) p)) (cell (pr c) p) := by
  unfold invs cellsOf
  iintro ⟨-, -, #H⟩
  iapply (cell_at kB vB K (pr c) p) $$ H
theorem ready_at (c : Dev nD) (p : Slot) : (ready c : sProp 𝕄) ⊢ reached ER (cell c p) 0 := bigSep_elim (Finset.mem_univ p)

/-- What never changes hands. -/
def shared (K : GSem nD τ sig → ℕ) (c : Dev nD) : sProp 𝕄 := iprop(invs kB vB K c ∗ ready c ∗ ready (pr c))
instance shared_persistent (K : GSem nD τ sig → ℕ) (c : Dev nD) : BI.Persistent (shared kB vB K c) := by unfold shared; infer_instance

set_option maxHeartbeats 800000 in
/-- A chunk of keys sent to the partner. -/
theorem wp_sendK (K : GSem nD τ sig → ℕ) (c : Dev nD) (i : Fin 4) (O : CellTallies nD τ sig Unit) (W : Waits sig Unit) (Kt : PUnit → sProp 𝕄) :
    iprop(shared kB vB K c ∗ (kcPt c i (kB c) ∗ (∃ f, krPt (pr c) i f) ∗ dutyTok ER (cell c (i, 0)) 0 () ∗ dutyTok ER (cell (pr c) (i, 1)) 0 ()
          ∗ owes (c : Thread nD τ) (O + tallyAt (cell (pr c) (i, 1)) () N) W)
        ∗ ((cred (tallyAt (cell c (i, 0)) () N) ∗ owes (c : Thread nD τ) O W) -∗ Kt ⟨⟩))
      ⊢ wp frame (wpE (defs₀ (F := F)) 𝒱₀ c none) Set.univ
        (send kM (Memref.isWhole_whole _) krM (Memref.isWhole_whole _) (pr c) cc0_scratch3 cc0_scratch4 i) Kt := by
  unfold shared send Prog.lift
  iintro ⟨⟨#HI, #Hr, #HrP⟩, ⟨Hk, ⟨%f, Hl⟩, Ht, HtP, HO⟩, HK⟩
  iapply (Rounds.wp_send_pointsTo 𝒱₀ ER (rd kB vB) (c : Thread nD τ) none (c' := (pr c : Thread nD τ)) (src := chunk kM i) (dst := chunk krM i)
      (sS := sem (i, 0)) (sem := sem (i, 1)) (q := lent) (fs := kB c) (κ₁ := K (cell c (i, 0))) (κ₂ := K (cell (pr c) (i, 1)))
      (r₁ := 0) (r₂ := 0) (d₁ := ()) (d₂ := ()) (fd := f)
      (duty_mem kB vB _) (duty_mem kB vB _) () () N rfl rfl rfl O rfl (W := W)
      (by rw [payload_cell]; exact BI.Entails.refl _)
      (by rw [payload_cell]; show _ ⊢ krPt (pr c) i (kB (pr (pr c))); rw [pr_pr]; exact kr_written (pr c) i (kB c) f)) $$ [Hk Hl HO Ht HtP]
  · isplitr; · iapply (inv_own kB vB K c (i, 0)) $$ HI
    isplitr; · iapply (inv_other kB vB K c (i, 1)) $$ HI
    isplitl [Hk]; · iexact Hk
    isplitl [Hl]; · iexact Hl
    isplitl [HO]; · iexact HO
    isplitl [Ht]; · iexact Ht
    isplitr; · iapply (ready_at c (i, 0)) $$ Hr
    isplitl [HtP]; · iexact HtP
    iapply (ready_at (pr c) (i, 1)) $$ HrP
  iintro H
  rw [wp_ret]
  imodintro
  iapply HK
  iexact H

set_option maxHeartbeats 800000 in
/-- A chunk of values sent to the partner. -/
theorem wp_sendV (K : GSem nD τ sig → ℕ) (c : Dev nD) (i : Fin 4) (O : CellTallies nD τ sig Unit) (W : Waits sig Unit) (Kt : PUnit → sProp 𝕄) :
    iprop(shared kB vB K c ∗ (vcPt c i (vB c) ∗ (∃ f, vrPt (pr c) i f) ∗ dutyTok ER (cell c (i, 2)) 0 () ∗ dutyTok ER (cell (pr c) (i, 3)) 0 ()
          ∗ owes (c : Thread nD τ) (O + tallyAt (cell (pr c) (i, 3)) () N) W)
        ∗ ((cred (tallyAt (cell c (i, 2)) () N) ∗ owes (c : Thread nD τ) O W) -∗ Kt ⟨⟩))
      ⊢ wp frame (wpE (defs₀ (F := F)) 𝒱₀ c none) Set.univ
        (send vM (Memref.isWhole_whole _) vrM (Memref.isWhole_whole _) (pr c) cc0_scratch5 cc0_scratch6 i) Kt := by
  unfold shared send Prog.lift
  iintro ⟨⟨#HI, #Hr, #HrP⟩, ⟨Hk, ⟨%f, Hl⟩, Ht, HtP, HO⟩, HK⟩
  iapply (Rounds.wp_send_pointsTo 𝒱₀ ER (rd kB vB) (c : Thread nD τ) none (c' := (pr c : Thread nD τ)) (src := chunk vM i) (dst := chunk vrM i)
      (sS := sem (i, 2)) (sem := sem (i, 3)) (q := lent) (fs := vB c) (κ₁ := K (cell c (i, 2))) (κ₂ := K (cell (pr c) (i, 3)))
      (r₁ := 0) (r₂ := 0) (d₁ := ()) (d₂ := ()) (fd := f)
      (duty_mem kB vB _) (duty_mem kB vB _) () () N rfl rfl rfl O rfl (W := W)
      (by rw [payload_cell]; exact BI.Entails.refl _)
      (by rw [payload_cell]; show _ ⊢ vrPt (pr c) i (vB (pr (pr c))); rw [pr_pr]; exact vr_written (pr c) i (vB c) f)) $$ [Hk Hl HO Ht HtP]
  · isplitr; · iapply (inv_own kB vB K c (i, 2)) $$ HI
    isplitr; · iapply (inv_other kB vB K c (i, 3)) $$ HI
    isplitl [Hk]; · iexact Hk
    isplitl [Hl]; · iexact Hl
    isplitl [HO]; · iexact HO
    isplitl [Ht]; · iexact Ht
    isplitr; · iapply (ready_at c (i, 2)) $$ Hr
    isplitl [HtP]; · iexact HtP
    iapply (ready_at (pr c) (i, 3)) $$ HrP
  iintro H
  rw [wp_ret]
  imodintro
  iapply HK
  iexact H

/-- What a chunk's copies out take. -/
def outgoing (c : Dev nD) (i : Fin 4) : sProp 𝕄 :=
  iprop(kcPt c i (kB c) ∗ vcPt c i (vB c) ∗ landing (pr c) i ∗ bigSep Finset.univ fun w => slotOwn c (i, w))
/-- What they leave: the credit of all four waits of the chunk. -/
def credits (c : Dev nD) (i : Fin 4) : sProp 𝕄 := bigSep Finset.univ fun w => cred (tallyAt (cell c (i, w)) () N)

set_option maxHeartbeats 800000 in
/-- A chunk's two copies. -/
theorem wp_sendStep (K : GSem nD τ sig → ℕ) (c : Dev nD) (i : Fin 4) (l : List (Fin 4)) (W : Waits sig Unit) (Kt : PUnit → sProp 𝕄) :
    iprop(shared kB vB K c ∗ (outgoing kB vB c i ∗ owes (c : Thread nD τ) (owe c (i :: l)) W)
        ∗ ((credits c i ∗ owes (c : Thread nD τ) (owe c l) W) -∗ Kt ⟨⟩))
      ⊢ wp frame (wpE (defs₀ (F := F)) 𝒱₀ c none) Set.univ (sendStep c i) Kt := by
  unfold sendStep outgoing landing slotOwn credits
  rw [kDev_pr, vDev_pr, bigSep_W0, bigSep_W0, wp_bind]
  simp only [target, credOf]
  iintro ⟨#HS, ⟨⟨Hk, Hv, ⟨Hlk, Hlv⟩, ⟨Ht0, -⟩, ⟨Ht1, Hc1⟩, ⟨Ht2, -⟩, ⟨Ht3, Hc3⟩⟩, HO⟩, HK⟩
  iapply (wp_sendK kB vB K c i (owe c l + tallyAt (cell (pr c) (i, 3)) () N) W)
  isplitr; · iexact HS
  isplitl [Hk Hlk Ht0 Ht1 HO]
  · isplitl [Hk]; · iexact Hk
    isplitl [Hlk]; · iexact Hlk
    isplitl [Ht0]; · iexact Ht0
    isplitl [Ht1]; · iexact Ht1
    iexact HO
  iintro ⟨Hc0, HO⟩
  iapply (wp_sendV kB vB K c i (owe c l) W)
  isplitr; · iexact HS
  isplitl [Hv Hlv Ht2 Ht3 HO]
  · isplitl [Hv]; · iexact Hv
    isplitl [Hlv]; · iexact Hlv
    isplitl [Ht2]; · iexact Ht2
    isplitl [Ht3]; · iexact Ht3
    iexact HO
  iintro ⟨Hc2, HO⟩
  iapply HK
  isplitr [HO]
  · isplitl [Hc0]; · iexact Hc0
    isplitl [Hc1]; · iexact Hc1
    isplitl [Hc2]; · iexact Hc2
    iexact Hc3
  iexact HO

/-- All the copies of a list of chunks. -/
theorem wp_sends (K : GSem nD τ sig → ℕ) (c : Dev nD) (W : Waits sig Unit) : ∀ (l : List (Fin 4)) (Kt : PUnit → sProp 𝕄),
    iprop(shared kB vB K c ∗ (bigSepL l (outgoing kB vB c) ∗ owes (c : Thread nD τ) (owe c l) W)
        ∗ ((bigSepL l (credits c) ∗ owes (c : Thread nD τ) 0 W) -∗ Kt ⟨⟩))
      ⊢ wp frame (wpE (defs₀ (F := F)) 𝒱₀ c none) Set.univ (each (sendStep c) l) Kt
  | [], Kt => by
    show _ ⊢ wp frame (wpE (defs₀ (F := F)) 𝒱₀ c none) Set.univ (.ret ⟨⟩) Kt
    rw [wp_ret, bigSepL_nil]
    iintro ⟨-, ⟨-, HO⟩, HK⟩
    imodintro
    iapply HK
    isplitr; · iempintro
    iexact HO
  | i :: l, Kt => by
    show _ ⊢ wp frame (wpE (defs₀ (F := F)) 𝒱₀ c none) Set.univ (sendStep c i >>= fun _ => each (sendStep c) l) Kt
    rw [wp_bind, bigSepL_cons', bigSepL_cons']
    iintro ⟨#HS, ⟨⟨Hi, Hl⟩, HO⟩, HK⟩
    iapply (wp_sendStep kB vB K c i l W)
    isplitr; · iexact HS
    isplitl [Hi HO]; · isplitl [Hi] <;> iassumption
    iintro ⟨Hc, HO⟩
    iapply (wp_sends K c W l Kt)
    isplitr; · iexact HS
    isplitl [Hl HO]; · isplitl [Hl] <;> iassumption
    iintro ⟨Hcs, HO⟩
    iapply HK
    isplitr [HO]; · isplitl [Hc] <;> iassumption
    iexact HO

/-! ## The waits -/

/-- A copy semaphore's cell, its one round over, gives its counter back at zero. -/
theorem close (κ : ℕ) (g : GSem nD τ sig) :
    iprop(cellInv ER (rd kB vB) κ g ∗ atPos ER g (0 + 1) ∅ 0) ⊢ (|={Set.univ}=> semVal g 0 : sProp 𝕄) :=
  Rounds.cell_close ER (rd kB vB) (Set.mem_univ κ) id (duties_later kB vB g)

set_option maxHeartbeats 800000 in
/-- A wait on one of a chunk's semaphores, owing nothing. -/
theorem wp_await (K : GSem nD τ sig → ℕ) (c : Dev nD) (i w : Fin 4) (src : Memref sig .tc .vmem S1024x2048 .bf16) (hs : src.IsWhole)
    (dst : Memref sig .tc .vmem S1024x2048 .bf16) (hd : dst.IsWhole) (hN : (chunk dst i).view.dmaCredit = N) (Kt : PUnit → sProp 𝕄) :
    iprop(shared kB vB K c ∗ ((atPos ER (cell c (i, w)) 0 ∅ 0 ∗ cred (tallyAt (cell c (i, w)) () N)) ∗ ∃ W, owes (c : Thread nD τ) 0 W)
        ∗ (((semVal (cell c (i, w)) 0 ∗ pay kB vB c i w) ∗ ∃ W, owes (c : Thread nD τ) 0 W) -∗ Kt ⟨⟩))
      ⊢ wp frame (wpE (defs₀ (F := F)) 𝒱₀ c none) Set.univ (await (arr w) src hs dst hd i) Kt := by
  unfold shared await Prog.lift
  iintro ⟨⟨#HI, -, -⟩, ⟨⟨Ha, Hc⟩, ⟨%W, HO⟩⟩, HK⟩
  ihave #HC := (inv_own kB vB K c (i, w)) $$ HI
  iapply (Rounds.wp_wait_rest_token 𝒱₀ ER (rd kB vB) (c : Thread nD τ) none (κ := K (cell c (i, w)))
      (wpE_waitDma2_eq (src := chunk src i) (dst := chunk dst i) 𝒱₀ (c : Thread nD τ) none Set.univ) (Set.mem_univ _) () (O := 0) (W := W) (R := 0) (m := 0) (T := ∅)
      (by rw [Nat.zero_add, hN]; exact (expect_cell kB vB c (i, w)).symm)) $$ [Hc HO Ha]
  · isplitr; · iexact HC
    isplitl [Hc]; · rw [hN]; iexact Hc
    isplitl [HO]; · iexact HO
    isplitr; · rw [MayWait_zero]; iempintro
    iexact Ha
  iintro ⟨HO, Ha, -, Hp⟩
  ihave Hp := (Entails.of_eq (rest_cell kB vB c i w)) $$ Hp
  rw [wp_ret]
  imod (close kB vB (K (cell c (i, w))) (cell c (i, w))) $$ [Ha] with Hz
  · isplitr; · iexact HC
    iexact Ha
  imodintro
  iapply HK
  isplitr [HO]
  · isplitl [Hz]; · iexact Hz
    iexact Hp
  iexists _; iexact HO

/-- What a chunk's waits take. -/
def incoming (c : Dev nD) (i : Fin 4) : sProp 𝕄 :=
  bigSep Finset.univ fun w => iprop(atPos ER (cell c (i, w)) 0 ∅ 0 ∗ cred (tallyAt (cell c (i, w)) () N))
/-- What they leave. -/
def landed (c : Dev nD) (i : Fin 4) : sProp 𝕄 := bigSep Finset.univ fun w => iprop(semVal (cell c (i, w)) 0 ∗ pay kB vB c i w)

set_option maxHeartbeats 800000 in
/-- A chunk's four waits. -/
theorem wp_awaitStep (K : GSem nD τ sig → ℕ) (c : Dev nD) (i : Fin 4) (Kt : PUnit → sProp 𝕄) :
    iprop(shared kB vB K c ∗ (incoming c i ∗ ∃ W, owes (c : Thread nD τ) 0 W)
        ∗ ((landed kB vB c i ∗ ∃ W, owes (c : Thread nD τ) 0 W) -∗ Kt ⟨⟩))
      ⊢ wp frame (wpE (defs₀ (F := F)) 𝒱₀ c none) Set.univ (awaitStep i) Kt := by
  unfold awaitStep incoming landed
  rw [bigSep_W0, bigSep_W0, wp_bind]
  iintro ⟨#HS, ⟨⟨H0, H1, H2, H3⟩, HO⟩, HK⟩
  iapply (wp_await kB vB K c i 0 krM _ kM _ rfl)
  isplitr; · iexact HS
  isplitl [H0 HO]; · isplitl [H0] <;> iassumption
  iintro ⟨H0, HO⟩
  rw [wp_bind]
  iapply (wp_await kB vB K c i 1 kM _ krM _ rfl)
  isplitr; · iexact HS
  isplitl [H1 HO]; · isplitl [H1] <;> iassumption
  iintro ⟨H1, HO⟩
  rw [wp_bind]
  iapply (wp_await kB vB K c i 2 vrM _ vM _ rfl)
  isplitr; · iexact HS
  isplitl [H2 HO]; · isplitl [H2] <;> iassumption
  iintro ⟨H2, HO⟩
  iapply (wp_await kB vB K c i 3 vM _ vrM _ rfl)
  isplitr; · iexact HS
  isplitl [H3 HO]; · isplitl [H3] <;> iassumption
  iintro ⟨H3, HO⟩
  iapply HK
  isplitr [HO]
  · isplitl [H0]; · iexact H0
    isplitl [H1]; · iexact H1
    isplitl [H2]; · iexact H2
    iexact H3
  iexact HO

/-- The state after every head against chunk `i` of the partner's block. -/
def chunkNext (q kr vr : Blk F) (s : St F) (i : Fin 4) : St F := heads.foldl (fun s h => tileNext q kr vr i h s) s

set_option maxHeartbeats 800000 in
/-- A list of chunks, each awaited and then used. -/
theorem wp_chunks (K : GSem nD τ sig → ℕ) (c : Dev nD) (q : Blk F) : ∀ (l : List (Fin 4)) (s : St F) (Kt : PUnit → sProp 𝕄),
    iprop(shared kB vB K c ∗ (bigSepL l (incoming c) ∗ (∃ W, owes (c : Thread nD τ) 0 W) ∗ qPt c q ∗ stPt c s)
        ∗ ((bigSepL l (landed kB vB c) ∗ (∃ W, owes (c : Thread nD τ) 0 W) ∗ qPt c q ∗ stPt c (l.foldl (chunkNext q (kB (pr c)) (vB (pr c))) s)) -∗ Kt ⟨⟩))
      ⊢ wp frame (wpE (defs₀ (F := F)) 𝒱₀ c none) Set.univ (each chunkStep l) Kt
  | [], s, Kt => by
    show _ ⊢ wp frame (wpE (defs₀ (F := F)) 𝒱₀ c none) Set.univ (.ret ⟨⟩) Kt
    rw [wp_ret, bigSepL_nil, bigSepL_nil, List.foldl_nil]
    iintro ⟨-, H, HK⟩
    imodintro
    iapply HK
    iexact H
  | i :: l, s, Kt => by
    show _ ⊢ wp frame (wpE (defs₀ (F := F)) 𝒱₀ c none) Set.univ ((awaitStep i >>= fun _ => each (tileStep i) heads) >>= fun _ => each chunkStep l) Kt
    rw [wp_bind, wp_bind, bigSepL_cons', bigSepL_cons', List.foldl_cons]
    iintro ⟨#HS, ⟨⟨Hi, Hl⟩, HO, Hq, Hs⟩, HK⟩
    iapply (wp_awaitStep kB vB K c i)
    isplitr; · iexact HS
    isplitl [Hi HO]; · isplitl [Hi] <;> iassumption
    unfold landed
    rw [bigSep_W0]
    simp only [pay]
    iintro ⟨⟨H0, ⟨Hz1, H1⟩, H2, ⟨Hz3, H3⟩⟩, HO⟩
    iapply (wp_tiles c q (kB (pr c)) (vB (pr c)) i s)
    isplitl [Hq H1 H3 Hs]
    · isplitl [Hq]; · iexact Hq
      isplitl [H1]; · iexact H1
      isplitl [H3]; · iexact H3
      iexact Hs
    iintro ⟨Hq, H1, H3, Hs⟩
    iapply (wp_chunks K c q l (chunkNext q (kB (pr c)) (vB (pr c)) s i) Kt)
    isplitr; · iexact HS
    isplitl [Hl HO Hq Hs]
    · isplitl [Hl]; · iexact Hl
      isplitl [HO]; · iexact HO
      isplitl [Hq]; · iexact Hq
      iexact Hs
    unfold landed
    iintro ⟨Hls, HO, Hq, Hs⟩
    iapply HK
    isplitr [HO Hq Hs]
    · isplitr [Hls]
      · isplitl [H0]; · iexact H0
        isplitl [Hz1 H1]; · isplitl [Hz1] <;> iassumption
        isplitl [H2]; · iexact H2
        isplitl [Hz3] <;> iassumption
      iexact Hls
    isplitl [HO]; · iexact HO
    isplitl [Hq] <;> iassumption

/-! ## The whole body -/

/-- A device's handshake cell's invariant, its own and its partner's. -/
theorem inv_bar (K : GSem nD τ sig → ℕ) (c : Dev nD) :
    (invs kB vB K c : sProp 𝕄) ⊢ iprop(cellInv ER (rd kB vB) (K (barCell c)) (barCell c)
      ∗ cellInv ER (rd kB vB) (K (barCell (pr c))) (barCell (pr c))) := by
  unfold invs cellsOf
  iintro ⟨⟨#H, -⟩, #HP, -⟩
  isplitr; · iexact H
  iexact HP

set_option maxHeartbeats 800000 in
/-- The handshake: the own landing buffers go to the partner, the partner's come. -/
theorem wp_handshake (K : GSem nD τ sig → ℕ) (c : Dev nD) (W : Waits sig Unit) (Kt : PUnit → sProp 𝕄) :
    iprop(invs kB vB K c ∗ ready c ∗ levAts L lv ∗ (barOf c ∗ bigSep Finset.univ (landing c) ∗ owes (c : Thread nD τ) (O₀ c) W)
        ∗ ((semVal (barCell c) 0 ∗ barPay c ∗ ∃ W, owes (c : Thread nD τ) (owe c chunks) W) -∗ Kt ⟨⟩))
      ⊢ wp frame (wpE (defs₀ (F := F)) 𝒱₀ c none) Set.univ (handshake c) Kt := by
  unfold barOf
  simp only [handshake, semSignalWord, semWaitWord, Prog.bind_op, Prog.bind_ret]
  rw [dev1_pr]
  iintro ⟨#HI, #Hr, #Hlev, ⟨⟨Ha, Hc, Ht, #HrP⟩, Hl, HO⟩, HK⟩
  ihave HB := (inv_bar kB vB K c) $$ HI
  icases HB with ⟨#HB, #HBP⟩
  iapply (Rounds.wp_signal 𝒱₀ ER (rd kB vB) (c : Thread nD τ) none (dst := (pr c : Thread nD τ)) (sem := barS.sem) (r := 0) (d := ()) (κ := K (barCell (pr c)))
      (duty_mem kB vB _) rfl () (owe c chunks) rfl) $$ [HO Ht Hl]
  · isplitr; · iexact HBP
    isplitl [HO]; · iexact HO
    isplitl [Ht]; · iexact Ht
    isplitl [Hl]
    · rw [payload_bar]; unfold barPay; rw [pr_pr]
      isplitl [Hl]; · iexact Hl
      iexact Hr
    iexact HrP
  iintro HO
  iapply (Rounds.wp_wait_rest_token 𝒱₀ ER (rd kB vB) (c : Thread nD τ) none (κ := K (barCell c))
      (wpE_semWait_eq 𝒱₀ (c : Thread nD τ) none Set.univ) (Set.mem_univ _) () (O := owe c chunks) (W := W) (R := 0) (m := 0) (T := ∅)
      ((Nat.zero_add 1).trans (expect_bar kB vB c).symm)) $$ [Hc HO Ha]
  · isplitr; · iexact HB
    isplitl [Hc]; · iexact Hc
    isplitl [HO]; · iexact HO
    isplitr; · iapply (mayWait_bar c); iexact Hlev
    iexact Ha
  iintro ⟨HO, Ha, -, Hp⟩
  ihave Hp := (Entails.of_eq (rest_bar kB vB c)) $$ Hp
  rw [wp_ret]
  imod (close kB vB (K (barCell c)) (barCell c)) $$ [Ha] with Hz
  · isplitr; · iexact HB
    iexact Ha
  imodintro
  iapply HK
  isplitl [Hz]; · iexact Hz
  isplitl [Hp]; · iexact Hp
  iexists _; iexact HO

/-- What a device holds of its copy semaphores. -/
def slotsOf (c : Dev nD) : sProp 𝕄 :=
  bigSep Finset.univ fun p : Slot => iprop(atPos ER (cell c p) 0 ∅ 0 ∗ slotOwn c p)
/-- Its copy semaphores' counters at zero. -/
def counters (c : Dev nD) : sProp 𝕄 := bigSep Finset.univ fun p : Slot => semVal (cell c p) 0

/-- The output and the denominators after the body. -/
def finalSt (q k v kr vr : Blk F) (s : St F) : St F :=
  heads.foldl (fun s h => divNext h s) (chunks.foldl (chunkNext q kr vr) (heads.foldl (fun s h => localNext q k v h s) s))

/-- What the body starts from. -/
def bodyPre (K : GSem nD τ sig → ℕ) (c : Dev nD) (q : Blk F) (s : St F) : sProp 𝕄 :=
  iprop(invs kB vB K c ∗ ready c ∗ levAts L lv ∗ barOf c ∗ slotsOf c ∗ ((∃ f, krW c f) ∗ (∃ f, vrW c f))
    ∗ (qPt c q ∗ kPt c fullShare (kB c) ∗ vPt c fullShare (vB c) ∗ stPt c s) ∗ ∃ W, owes (c : Thread nD τ) (O₀ c) W)
/-- What it ends with. -/
def bodyPost (c : Dev nD) (q : Blk F) (s : St F) : sProp 𝕄 :=
  iprop(semVal (barCell c) 0 ∗ counters c ∗ ((∃ f, krW c f) ∗ (∃ f, vrW c f))
    ∗ (qPt c q ∗ kPt c fullShare (kB c) ∗ vPt c fullShare (vB c) ∗ stPt c (finalSt q (kB c) (vB c) (kB (pr c)) (vB (pr c)) s))
    ∗ ∃ W, owes (c : Thread nD τ) 0 W)

/-- The chunks one by one. -/
theorem chunks_list (Φ : Fin 4 → sProp 𝕄) : bigSep Finset.univ Φ = bigSepL chunks Φ :=
  bigSep_univ_eq_bigSepL chunks (by decide) (by decide) Φ

/-- The semaphores' holdings, split between the copies out and the waits. -/
theorem slots_split (c : Dev nD) : slotsOf c = iprop((bigSep Finset.univ fun i : Fin 4 => bigSep Finset.univ fun w : Fin 4 => atPos ER (cell c (i, w)) 0 ∅ 0)
    ∗ bigSep Finset.univ fun i : Fin 4 => bigSep Finset.univ fun w : Fin 4 => (slotOwn c (i, w) : sProp 𝕄)) := by
  unfold slotsOf
  rw [bigSep_sep', bigSep_univ_prod, bigSep_univ_prod]

/-- What the copies out take, collected. -/
theorem outgoing_intro (c : Dev nD) :
    iprop(kPt c lent (kB c) ∗ vPt c lent (vB c) ∗ bigSep Finset.univ (landing (pr c))
        ∗ bigSep Finset.univ fun i : Fin 4 => bigSep Finset.univ fun w : Fin 4 => slotOwn c (i, w))
      ⊢ (bigSepL chunks (outgoing kB vB c) : sProp 𝕄) := by
  rw [← chunks_list, k_chunks, v_chunks, ← bigSep_sep', ← bigSep_sep', ← bigSep_sep']
  exact BI.Entails.refl _
/-- What the waits take, collected. -/
theorem incoming_intro (c : Dev nD) :
    iprop((bigSep Finset.univ fun i : Fin 4 => bigSep Finset.univ fun w : Fin 4 => atPos ER (cell c (i, w)) 0 ∅ 0) ∗ bigSepL chunks (credits c))
      ⊢ (bigSepL chunks (incoming c) : sProp 𝕄) := by
  rw [← chunks_list, ← chunks_list, ← bigSep_sep']
  refine bigSep_mono fun i _ => ?_
  unfold credits incoming
  rw [← bigSep_sep']
  exact BI.Entails.refl _
/-- What one chunk's waits leave. -/
theorem landed_one (c : Dev nD) (i : Fin 4) : (landed kB vB c i : sProp 𝕄)
    ⊢ iprop((bigSep Finset.univ fun w : Fin 4 => semVal (cell c (i, w)) 0)
      ∗ kcPt c i (kB c) ∗ krPt c i (kB (pr c)) ∗ vcPt c i (vB c) ∗ vrPt c i (vB (pr c))) := by
  unfold landed
  rw [bigSep_W0, bigSep_W0]
  simp only [pay]
  iintro ⟨⟨Hz0, H0⟩, ⟨Hz1, H1⟩, ⟨Hz2, H2⟩, ⟨Hz3, H3⟩⟩
  isplitl [Hz0 Hz1 Hz2 Hz3]
  · isplitl [Hz0]; · iexact Hz0
    isplitl [Hz1]; · iexact Hz1
    isplitl [Hz2]; · iexact Hz2
    iexact Hz3
  isplitl [H0]; · iexact H0
  isplitl [H1]; · iexact H1
  isplitl [H2]; · iexact H2
  iexact H3
/-- What the waits leave: the counters, what was lent, and the landing buffers whole. -/
theorem landed_elim (c : Dev nD) : (bigSepL chunks (landed kB vB c) : sProp 𝕄)
    ⊢ iprop(counters c ∗ kPt c lent (kB c) ∗ krW c (kB (pr c)) ∗ vPt c lent (vB c) ∗ vrW c (vB (pr c))) := by
  rw [← chunks_list]
  unfold counters
  rw [k_chunks, v_chunks, kr_chunks, vr_chunks, bigSep_univ_prod, ← bigSep_sep', ← bigSep_sep', ← bigSep_sep', ← bigSep_sep']
  exact bigSep_mono fun i _ => landed_one kB vB c i

set_option maxHeartbeats 1600000 in
/-- The body, once. -/
theorem wp_program (K : GSem nD τ sig → ℕ) (c : Dev nD) (q : Blk F) (s : St F) (Kt : PUnit → sProp 𝕄) :
    iprop(bodyPre kB vB K c q s ∗ (bodyPost kB vB c q s -∗ Kt ⟨⟩))
      ⊢ wp frame (wpE (defs₀ (F := F)) 𝒱₀ c none) Set.univ (program (F := F)) Kt := by
  unfold program Prog.lift
  rw [Prog.bind_op, wp_deviceId, Prog.bind_ret, wp_bind]
  unfold bodyPre
  rw [slots_split]
  iintro ⟨⟨#HI, #Hr, #Hlev, Hbar, ⟨Ha, Hs⟩, ⟨⟨%f, Hkr⟩, ⟨%g, Hvr⟩⟩, ⟨Hq, Hk, Hv, Hst⟩, ⟨%W, HO⟩⟩, HK⟩
  iapply (wp_handshake kB vB K c W)
  isplitr; · iexact HI
  isplitr; · iexact Hr
  isplitr; · iexact Hlev
  isplitl [Hbar Hkr Hvr HO]
  · isplitl [Hbar]; · iexact Hbar
    isplitl [Hkr Hvr]
    · iapply (landing_split c f g)
      isplitl [Hkr] <;> iassumption
    iexact HO
  iintro ⟨Hz, Hp, ⟨%W', HO⟩⟩
  unfold barPay
  icases Hp with ⟨Hl, #HrP⟩
  ihave Hk := (k_halves c (kB c)).1 $$ Hk
  icases Hk with ⟨Hk, Hkl⟩
  ihave Hv := (v_halves c (vB c)).1 $$ Hv
  icases Hv with ⟨Hv, Hvl⟩
  rw [wp_bind]
  iapply (wp_sends kB vB K c W' chunks)
  isplitr
  · unfold shared
    isplitr; · iexact HI
    isplitr; · iexact Hr
    iexact HrP
  isplitl [Hkl Hvl Hl Hs HO]
  · isplitr [HO]
    · iapply (outgoing_intro kB vB c)
      isplitl [Hkl]; · iexact Hkl
      isplitl [Hvl]; · iexact Hvl
      isplitl [Hl] <;> iassumption
    iexact HO
  iintro ⟨Hcr, HO⟩
  rw [wp_bind]
  iapply (wp_locals c kept kept q (kB c) (vB c) s)
  isplitl [Hq Hk Hv Hst]
  · isplitl [Hq]; · iexact Hq
    isplitl [Hk]; · iexact Hk
    isplitl [Hv]; · iexact Hv
    iexact Hst
  iintro ⟨Hq, Hk, Hv, Hst⟩
  rw [wp_bind]
  iapply (wp_chunks kB vB K c q chunks)
  isplitr
  · unfold shared
    isplitr; · iexact HI
    isplitr; · iexact Hr
    iexact HrP
  isplitl [Ha Hcr HO Hq Hst]
  · isplitl [Ha Hcr]
    · iapply (incoming_intro c)
      isplitl [Ha] <;> iassumption
    isplitl [HO]; · iexists _; iexact HO
    isplitl [Hq]; · iexact Hq
    iexact Hst
  iintro ⟨Hla, HO, Hq, Hst⟩
  iapply (wp_divs c)
  isplitl [Hst]; · iexact Hst
  iintro Hst
  ihave H := (landed_elim kB vB c) $$ Hla
  icases H with ⟨Hcn, Hkl, Hkr, Hvl, Hvr⟩
  iapply HK
  unfold bodyPost
  isplitl [Hz]; · iexact Hz
  isplitl [Hcn]; · iexact Hcn
  isplitl [Hkr Hvr]
  · isplitl [Hkr]
    · iexists _; iexact Hkr
    · iexists _; iexact Hvr
  isplitr [HO]
  · isplitl [Hq]; · iexact Hq
    isplitl [Hk Hkl]
    · iapply (k_halves c (kB c)).2
      isplitl [Hk] <;> iassumption
    isplitl [Hv Hvl]
    · iapply (v_halves c (vB c)).2
      isplitl [Hv] <;> iassumption
    iexact Hst
  iexact HO

end Cert.KernelIdeal.Flow

end
-- ==== Proof.Contents.lean ====
/- What the body leaves in the output, head by head. A step rewrites one head's columns and denominators and reads no other
   head's, so a pass over the heads acts on each head by itself; nothing of what the output and the denominators held at the
   start is left. -/
module

public import proofs.«01_k».proof.Proof.Body

@[expose] public section

noncomputable section

namespace Cert.KernelIdeal.Flow

open Idealize.ShloMosaic Idealize.ShloMosaic.TcCoe
open Cert.KernelIdeal Cert.KernelIdeal.Gen

variable {F : FTy → Type} [FloatOps F]

/-! ## One head's columns read after a rewrite -/

theorem col_row (h : Fin 16) (x : S1024x128.Idx) : ((colR h).emb x 0).val = (x 0).val := by
  rw [Rect.emb_apply]; show 0 + 1 * (x 0).val = (x 0).val; omega
theorem col_lane (h : Fin 16) (x : S1024x128.Idx) : ((colR h).emb x 1).val = 128 * h.val + (x 1).val := by
  rw [Rect.emb_apply]; show 128 * h.val + 1 * (x 1).val = _; omega
theorem den_lane (h : Fin 16) (x : S1024x1.Idx) : ((denR h).emb x 1).val = h.val + (x 1).val := by
  rw [Rect.emb_apply]; show h.val + 1 * (x 1).val = _; omega

theorem col_ne {h h' : Fin 16} (hh : h' ≠ h) (x : S1024x128.Idx) : (colR h').emb x ∉ (colR h).set := by
  rw [Rect.mem_set_unit]
  intro H
  have h1 : 128 * h.val ≤ ((colR h').emb x 1).val ∧ ((colR h').emb x 1).val < 128 * h.val + 128 := H 1
  rw [col_lane] at h1
  have h2 : (x 1).val < 128 := (x 1).isLt
  exact hh (Fin.ext (by omega))
theorem den_ne {h h' : Fin 16} (hh : h' ≠ h) (x : S1024x1.Idx) : (denR h').emb x ∉ (denR h).set := by
  rw [Rect.mem_set_unit]
  intro H
  have h1 : h.val ≤ ((denR h').emb x 1).val ∧ ((denR h').emb x 1).val < h.val + 1 := H 1
  rw [den_lane] at h1
  have h2 : (x 1).val < 1 := (x 1).isLt
  exact hh (Fin.ext (by omega))

theorem col_putCol (o : OutB F) (h : Fin 16) (w : Vec F S1024x128 .f32) : col (putCol o h w) h = w := funext fun x => by
  have e := View.write_emb_of_mem (v := oM.access (colR h)) (Val := Elt F) o w (Finset.mem_univ x)
  unfold col putCol
  exact e
theorem den_putDen (l : DenB F) (h : Fin 16) (w : Vec F S1024x1 .f32) : den (putDen l h w) h = w := funext fun x => by
  have e := View.write_emb_of_mem (v := lM.access (denR h)) (Val := Elt F) l w (Finset.mem_univ x)
  unfold den putDen
  exact e
theorem col_putCol_ne (o : OutB F) {h h' : Fin 16} (hh : h' ≠ h) (w : Vec F S1024x128 .f32) : col (putCol o h w) h' = col o h' :=
  funext fun x => by
    have e := View.write_of_not_mem (v := oM.access (colR h)) (Val := Elt F) o w Finset.univ (i := (colR h').emb x) fun hm => by
      obtain ⟨y, -, he⟩ := Finset.mem_map.mp hm
      have he' : (colR h).emb y = (colR h').emb x := he
      have hy : (colR h).emb y ∈ (colR h).set := (colR h).toLoadRect.idx_mem y
      exact col_ne hh x (he' ▸ hy)
    unfold col putCol
    exact e
theorem den_putDen_ne (l : DenB F) {h h' : Fin 16} (hh : h' ≠ h) (w : Vec F S1024x1 .f32) : den (putDen l h w) h' = den l h' :=
  funext fun x => by
    have e := View.write_of_not_mem (v := lM.access (denR h)) (Val := Elt F) l w Finset.univ (i := (denR h').emb x) fun hm => by
      obtain ⟨y, -, he⟩ := Finset.mem_map.mp hm
      have he' : (denR h).emb y = (denR h').emb x := he
      have hy : (denR h).emb y ∈ (denR h).set := (denR h).toLoadRect.idx_mem y
      exact den_ne hh x (he' ▸ hy)
    unfold den putDen
    exact e

/-! ## A pass over the heads -/

/-- One head's columns and denominators. -/
abbrev Hd (F : FTy → Type) := Vec F S1024x128 .f32 × Vec F S1024x1 .f32
/-- One head of the state. -/
def head (s : St F) (h : Fin 16) : Hd F := (col s.1 h, den s.2 h)

/-- A step acts on its own head by `Φ` and leaves the others. -/
def ActsOn (g : Fin 16 → St F → St F) (Φ : Fin 16 → Hd F → Hd F) : Prop :=
  ∀ h h' s, head (g h s) h' = if h' = h then Φ h (head s h) else head s h'

/-- A pass over distinct heads acts on each of them once. -/
theorem head_pass {g : Fin 16 → St F → St F} {Φ : Fin 16 → Hd F → Hd F} (hg : ActsOn g Φ) (h : Fin 16) :
    ∀ (l : List (Fin 16)) (s : St F), l.Nodup → head (l.foldl (fun s h => g h s) s) h = if h ∈ l then Φ h (head s h) else head s h
  | [], s, _ => by rw [List.foldl_nil, if_neg List.not_mem_nil]
  | a :: l, s, hl => by
    rw [List.foldl_cons, head_pass hg h l (g a s) (List.nodup_cons.mp hl).2, hg a h s]
    have hn := (List.nodup_cons.mp hl).1
    by_cases ha : h = a
    · subst ha
      rw [if_neg hn, if_pos rfl, if_pos List.mem_cons_self]
    · rw [if_neg ha]
      simp only [List.mem_cons, ha, false_or]

theorem mem_heads : ∀ h : Fin 16, h ∈ heads := by decide
theorem nodup_heads : heads.Nodup := by decide
/-- A pass over all heads. -/
theorem head_all {g : Fin 16 → St F → St F} {Φ : Fin 16 → Hd F → Hd F} (hg : ActsOn g Φ) (s : St F) (h : Fin 16) :
    head (heads.foldl (fun s h => g h s) s) h = Φ h (head s h) := by
  rw [head_pass hg h heads s nodup_heads, if_pos (mem_heads h)]

/-! ## The three passes -/

/-- A head against the device's own keys. -/
def localHd (q k v : Vec F S1024x128 .bf16) : Hd F := (localOut q k v, localDen q k)
/-- A head against a chunk. -/
def tileHd (q : Vec F S1024x128 .bf16) (k v : Vec F S256x128 .bf16) (a : Hd F) : Hd F := (tileOut q k v a.1, tileDen q k a.2)
/-- A head's quotient. -/
def divHd (a : Hd F) : Hd F := (quotient a.1 a.2, a.2)

theorem acts_local (q k v : Blk F) : ActsOn (localNext q k v) fun h _ => localHd (col q h) (col k h) (col v h) := fun h h' s => by
  unfold head localNext localHd
  by_cases hh : h' = h
  · subst hh; rw [if_pos rfl, col_putCol, den_putDen]
  · rw [if_neg hh, col_putCol_ne _ hh, den_putDen_ne _ hh]
theorem acts_tile (q kr vr : Blk F) (i : Fin 4) : ActsOn (tileNext q kr vr i) fun h a => tileHd (col q h) (tile kr i h) (tile vr i h) a := fun h h' s => by
  unfold head tileNext tileHd
  by_cases hh : h' = h
  · subst hh; rw [if_pos rfl, col_putCol, den_putDen]
  · rw [if_neg hh, col_putCol_ne _ hh, den_putDen_ne _ hh]
theorem acts_div : ActsOn (F := F) divNext fun _ a => divHd a := fun h h' s => by
  unfold head divNext divHd
  by_cases hh : h' = h
  · subst hh; rw [if_pos rfl, col_putCol]
  · rw [if_neg hh, col_putCol_ne _ hh]

/-- A head against the chunks of a list, in order. -/
def tilesHd (q : Vec F S1024x128 .bf16) (kr vr : Blk F) (h : Fin 16) (l : List (Fin 4)) (a : Hd F) : Hd F :=
  l.foldl (fun a i => tileHd q (tile kr i h) (tile vr i h) a) a

theorem head_chunks (q kr vr : Blk F) (h : Fin 16) : ∀ (l : List (Fin 4)) (s : St F),
    head (l.foldl (chunkNext q kr vr) s) h = tilesHd (col q h) kr vr h l (head s h)
  | [], _ => rfl
  | i :: l, s => by
    rw [List.foldl_cons, head_chunks q kr vr h l]
    unfold chunkNext
    rw [head_all (acts_tile q kr vr i)]
    rfl

/-- One head's output. -/
def headOut (q k v kr vr : Blk F) (h : Fin 16) : Vec F S1024x128 .f32 :=
  (divHd (tilesHd (col q h) kr vr h chunks (localHd (col q h) (col k h) (col v h)))).1

/-- A head of what the body leaves is that head's output, whatever the body started from. -/
theorem col_final (q k v kr vr : Blk F) (s : St F) (h : Fin 16) : col (finalSt q k v kr vr s).1 h = headOut q k v kr vr h := by
  have := head_all (F := F) acts_div (chunks.foldl (chunkNext q kr vr) (heads.foldl (fun s h => localNext q k v h s) s)) h
  rw [head_chunks, head_all (acts_local q k v)] at this
  exact congrArg Prod.fst this

/-! ## The output -/

/-- The head a column belongs to. -/
def headOf (x : S1024x2048.Idx) : Fin 16 := ⟨(x 1).val / 128, by have : (x 1).val < 2048 := (x 1).isLt; omega⟩
/-- A row and a column inside its head. -/
def inHead (x : S1024x2048.Idx) : S1024x128.Idx
  | 0 => x 0
  | 1 => ⟨(x 1).val % 128, Nat.mod_lt _ (by decide)⟩
theorem emb_inHead (x : S1024x2048.Idx) : (colR (headOf x)).emb (inHead x) = x := by
  funext a
  refine Fin.ext ?_
  fin_cases a
  · exact col_row _ _
  · refine (col_lane _ _).trans ?_
    show 128 * ((x 1).val / 128) + (x 1).val % 128 = (x 1).val
    omega

/-- The output, all heads. -/
def outB (q k v kr vr : Blk F) : OutB F := fun x => headOut q k v kr vr (headOf x) (inHead x)
/-- The body leaves it. -/
theorem final_out (q k v kr vr : Blk F) (s : St F) : (finalSt q k v kr vr s).1 = outB q k v kr vr := funext fun x => by
  unfold outB
  rw [← col_final q k v kr vr s]
  unfold col
  rw [emb_inHead]

end Cert.KernelIdeal.Flow

end
-- ==== Proof.Region.lean ====
/- The kernel's call as one step of @main: what each window's block holds, the body's obligation from its proof, and the
   call entered from what the launch deals and left with the output written. -/
module

public import proofs.«01_k».proof.Proof.Contents
public import proofs.«01_k».proof.Proof.Gen.KernelIdeal.Frame
public import Idealize.ShloMosaic.Lib.Pipeline.Regions
public import Idealize.ShloMosaic.Lib.Pipeline.RegionTalk
public import Idealize.ShloMosaic.Lib.Tactic

@[expose] public section

noncomputable section

namespace Cert.KernelIdeal.Flow

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The blocks -/

/-- The scaled queries, the keys and the values that device `c` is called with. -/
def qB (c : Dev nD) : Blk F := iblk m c 0 t0_0
def kB (c : Dev nD) : Blk F := iblk m c 1 t0_0
def vB (c : Dev nD) : Blk F := iblk m c 2 t0_0
/-- What it computes from them and its partner's. -/
def resB (c : Dev nD) : OutB F := outB (qB m c) (kB m c) (vB m c) (kB m (pr c)) (vB m (pr c))

/-- What enters the body's invariant. -/
def enter (c : Dev nD) : sProp 𝕄 :=
  iprop((∃ K, invs (kB m) (vB m) K c) ∗ ready c ∗ levAts L lv ∗ barOf c ∗ slotsOf c)
/-- The registers and buffers that the body may use freely. -/
def free (c : Dev nD) : sProp 𝕄 := iprop(Pipeline.scopedRest spec0 c ∗ ∃ r, prngReg c r)

/-- What the pipeline is told of the kernel on device `c`. -/
def dats (p : Fin 1) (c : Dev nD) : Dat τ (Elt F) Unit ℕ UU ℕ (cfgs p) c where
  A w := match p with | ⟨0, _⟩ => V m c (Pipeline.arrRef spec0 w)
  after w t := match p with
    | ⟨0, _⟩ => match w with
      | ⟨0, _⟩ => iblk m c 0 t
      | ⟨1, _⟩ => iblk m c 1 t
      | ⟨2, _⟩ => iblk m c 2 t
      | ⟨3, _⟩ => resB m c
  Φ t := if t.val = 0 then iprop(enter m c ∗ free c) else iprop(semVal (barCell c) 0 ∗ counters c ∗ free c)
  q _ := fullShare
  owed t := if t.val = 0 then O₀ c else 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = resB m c := by dsimp only [dats]

/-- Each operand's staging buffer holds its block when the body runs. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## What is owed, point by point -/

theorem owed_first (c : Dev nD) : (dats m 0 c).owed 0 = O₀ c := by
  show (if ((0 : Fin (cfg0.N + 1)).val = 0) then O₀ c else 0) = O₀ c; exact if_pos rfl
theorem owed_start (c : Dev nD) : (dats m 0 c).owed (t0_0 : Fin cfg0.N).castSucc = O₀ c := by
  show (if ((t0_0 : Fin cfg0.N).castSucc : Fin (cfg0.N + 1)).val = 0 then O₀ c else 0) = O₀ c; exact if_pos rfl
theorem owed_end (c : Dev nD) : (dats m 0 c).owed (t0_0 : Fin cfg0.N).succ = 0 := by
  show (if ((t0_0 : Fin cfg0.N).succ : Fin (cfg0.N + 1)).val = 0 then O₀ c else 0) = 0
  rw [Fin.val_succ, if_neg (Nat.succ_ne_zero _)]
theorem owed_last (c : Dev nD) : (dats m 0 c).owed (Fin.last _) = 0 := by
  show (if (Fin.last cfg0.N).val = 0 then O₀ c else 0) = 0
  rw [Fin.val_last, if_neg (by rw [show cfg0.N = 1 from N_0]; decide)]
theorem inv_start (c : Dev nD) : (dats m 0 c).Φ (t0_0 : Fin cfg0.N).castSucc = iprop(enter m c ∗ free c) := rfl
theorem inv_end (c : Dev nD) : (dats m 0 c).Φ (t0_0 : Fin cfg0.N).succ = iprop(semVal (barCell c) 0 ∗ counters c ∗ free c) := rfl

/-- The core owes what the point says. -/
theorem owesAt_of {c : Dev nD} (dat : Dat τ (Elt F) Unit ℕ UU ℕ cfg0 c) (t : Fin (cfg0.N + 1)) (O : CellTallies nD τ sig Unit)
    (h0 : dat.owed t = O) (hr : dat.recorded t = Set.univ) :
    iprop(∃ W, owes (c : Thread nD τ) O W) ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
theorem owesAt_to {c : Dev nD} (dat : Dat τ (Elt F) Unit ℕ UU ℕ cfg0 c) (t : Fin (cfg0.N + 1)) (O : CellTallies nD τ sig Unit)
    (h0 : dat.owed t = O) : (dat.owesAt () t : sProp 𝕄) ⊢ iprop(∃ W, owes (c : Thread nD τ) O W) := by
  unfold Dat.owesAt Pipeline.owesWithin; rw [h0]
  iintro ⟨%W, -, HO⟩; iexists W; iexact HO

/-! ## The body's obligation -/

/-- What the body is called with and what it returns, the windows one by one. -/
def callPre (c : Dev nD) : sProp 𝕄 :=
  iprop((dats m 0 c).Φ (t0_0 : Fin cfg0.N).castSucc ∗ (dats m 0 c).owesAt () (t0_0 : Fin cfg0.N).castSucc
    ∗ (∃ d, owns (c : Thread nD τ) (st0_0 t0_0) fullShare ((dats m 0 c).before 0 t0_0 d))
    ∗ (∃ d, owns (c : Thread nD τ) (st0_1 t0_0) fullShare ((dats m 0 c).before 1 t0_0 d))
    ∗ (∃ d, owns (c : Thread nD τ) (st0_2 t0_0) fullShare ((dats m 0 c).before 2 t0_0 d))
    ∗ (∃ d, owns (c : Thread nD τ) (st0_3 t0_0) fullShare ((dats m 0 c).before 3 t0_0 d)))
def callPost (c : Dev nD) : sProp 𝕄 :=
  iprop((dats m 0 c).Φ (t0_0 : Fin cfg0.N).succ ∗ (dats m 0 c).owesAt () (t0_0 : Fin cfg0.N).succ
    ∗ owns (c : Thread nD τ) (st0_0 t0_0) fullShare ((dats m 0 c).after 0 t0_0)
    ∗ owns (c : Thread nD τ) (st0_1 t0_0) fullShare ((dats m 0 c).after 1 t0_0)
    ∗ owns (c : Thread nD τ) (st0_2 t0_0) fullShare ((dats m 0 c).after 2 t0_0)
    ∗ owns (c : Thread nD τ) (st0_3 t0_0) fullShare ((dats m 0 c).after 3 t0_0))

/-- The staging buffers are whole buffers. -/
theorem owns_q (c : Dev nD) (f : Blk F) : (owns (c : Thread nD τ) (st0_0 t0_0) fullShare f : sProp 𝕄) = qPt c f := owns_whole (c : Thread nD τ) cc0_stg0_0 fullShare f
theorem owns_k (c : Dev nD) (f : Blk F) : (owns (c : Thread nD τ) (st0_1 t0_0) fullShare f : sProp 𝕄) = kPt c fullShare f := owns_whole (c : Thread nD τ) cc0_stg1_0 fullShare f
theorem owns_v (c : Dev nD) (f : Blk F) : (owns (c : Thread nD τ) (st0_2 t0_0) fullShare f : sProp 𝕄) = vPt c fullShare f := owns_whole (c : Thread nD τ) cc0_stg2_0 fullShare f
theorem owns_o (c : Dev nD) (f : OutB F) : (owns (c : Thread nD τ) (st0_3 t0_0) fullShare f : sProp 𝕄) = oPt c f := owns_whole (c : Thread nD τ) cc0_stg3_0 fullShare f

/-- The scratch buffers are the landing buffers and the denominators. -/
theorem scratch_eq (c : Dev nD) : (Pipeline.scopedRest spec0 c : sProp 𝕄) = iprop((∃ f, krW c f) ∗ (∃ f, vrW c f) ∗ (∃ f, lPt c f)) :=
  scopedRest0_eq c

/-- Whatever the output held at the start, it ends at the result. -/
theorem out_done (c : Dev nD) (s : St F) : (oPt c (finalSt (qB m c) (kB m c) (vB m c) (kB m (pr c)) (vB m (pr c)) s).1 : sProp 𝕄)
    ⊢ owns (c : Thread nD τ) (st0_3 t0_0) fullShare (resB m c) := by
  rw [final_out]; exact Entails.of_eq (owns_o c (resB m c)).symm

/-- The body meets its obligation. -/
theorem call_ok (c : Dev nD) : callPre m c ⊢ wp frame (wpE (defs₀ (F := F)) 𝒱₀ c none) Set.univ (program (F := F)) (fun _ => callPost m c) := by
  unfold callPre callPost
  simp only [before_0, before_1, before_2]
  rw [after_0, after_1, after_2, after_3, inv_start, inv_end]
  unfold free enter
  rw [scratch_eq]
  iintro ⟨⟨⟨⟨%K, HI⟩, Hr, Hlev, Hbar, Hsl⟩, ⟨Hkr, Hvr, ⟨%l, Hl⟩⟩, Hp⟩, HO, ⟨%d0, H0⟩, ⟨%d1, H1⟩, ⟨%d2, H2⟩, ⟨%d3, H3⟩⟩
  ihave HO := (owesAt_to (dats m 0 c) _ (O₀ c) (owed_start m c)) $$ HO
  iapply (wp_program (kB m) (vB m) K c (qB m c) ((dats m 0 c).before 3 t0_0 d3, l) _)
  isplitl [HI Hr Hlev Hbar Hsl Hkr Hvr Hl HO H0 H1 H2 H3]
  · unfold bodyPre
    isplitl [HI]; · iexact HI
    isplitl [Hr]; · iexact Hr
    isplitl [Hlev]; · iexact Hlev
    isplitl [Hbar]; · iexact Hbar
    isplitl [Hsl]; · iexact Hsl
    isplitl [Hkr Hvr]
    · isplitl [Hkr]; · iexact Hkr
      iexact Hvr
    isplitr [HO]
    · isplitl [H0]; · iapply (Entails.of_eq (owns_q c (qB m c))); iexact H0
      isplitl [H1]; · iapply (Entails.of_eq (owns_k c (kB m c))); iexact H1
      isplitl [H2]; · iapply (Entails.of_eq (owns_v c (vB m c))); iexact H2
      isplitl [H3]; · iapply (Entails.of_eq (owns_o c ((dats m 0 c).before 3 t0_0 d3))); iexact H3
      iexact Hl
    iexact HO
  unfold bodyPost
  iintro ⟨Hz, Hc, ⟨Hkr, Hvr⟩, ⟨H0, H1, H2, H3, Hl⟩, HO⟩
  isplitl [Hz Hc Hkr Hvr Hl Hp]
  · isplitl [Hz]; · iexact Hz
    isplitl [Hc]; · iexact Hc
    isplitr [Hp]
    · isplitl [Hkr]; · iexact Hkr
      isplitl [Hvr]; · iexact Hvr
      iexists _; iexact Hl
    iexact Hp
  isplitl [HO]; · iapply (owesAt_of (dats m 0 c) _ 0 (owed_end m c) rfl); iexact HO
  isplitl [H0]; · iapply (Entails.of_eq (owns_q c (qB m c)).symm); iexact H0
  isplitl [H1]; · iapply (Entails.of_eq (owns_k c (kB m c)).symm); iexact H1
  isplitl [H2]; · iapply (Entails.of_eq (owns_v c (vB m c)).symm); iexact H2
  iapply (out_done m c _); iexact H3

/-- The pipeline calls that body. -/
theorem call_body : defs₀ (F := F) .tc cfg0.body (cfg0.bodyArgs t0_0 (cfg0.slots t0_0)) = program (F := F) := by
  unfold defs₀; rw [Defs.onTc_tc]
  exact body_eq

/-- The obligation as the pipeline asks it. -/
theorem body_ok (c : Dev nD) : BodyObligation (dats (F := F) m 0 c) defs₀ 𝒱₀ () Set.univ := fun t => by
  obtain rfl := fin_N0 t
  rw [bigSep_W0, bigSep_W0, call_body]
  exact triple_restated (call_ok m c) rfl .rfl fun _ => .rfl

end Cert.KernelIdeal.Flow

end
-- ==== Proof.Segments.lean ====
/- @main as three segments: the operations that flatten and scale the arguments, the kernel's call, and the reshape of
   its output. -/
module

public import Idealize.ShloMosaic.Lib.Pipeline.ValueKit.Geometry
public import proofs.«01_k».proof.Proof.Region

@[expose] public section

noncomputable section

namespace Cert.KernelIdeal.Flow

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The buffers around the call -/

/-- The call's arrays, and the other buffers of @main. -/
abbrev arrs : Finset (DevRef τ sig) := Pipeline.arrRefs (τ := τ) spec0
abbrev others : Finset (DevRef τ sig) := Pipeline.ucRefs τ sig \ arrs
theorem arrs_sub : arrs ⊆ Pipeline.ucRefs τ sig := Pipeline.arrRefs_sub_ucRefs spec0 launch0.win.arr_unscoped

/-- The contents of the buffers as launched. -/
abbrev Vin (c : Dev nD) : Valuation τ sig (Elt F) := fun b => m (c, b)
/-- After the call: the output written. -/
def V1 (c : Dev nD) : Valuation τ sig (Elt F) := Function.update (V0 m c) (Proc.devRef .tc main_v6) (resB m c)
/-- At the end. -/
abbrev V2 (c : Dev nD) : Valuation τ sig (Elt F) := StableHlo.after hostOps1 (V1 m c)

theorem V1_out (c : Dev nD) : V1 m c (Proc.devRef .tc main_v6) = resB m c := Function.update_self ..
theorem V1_ne (c : Dev nD) {b : DevRef τ sig} (h : b ≠ Proc.devRef .tc main_v6) : V1 m c b = V0 m c b := Function.update_of_ne h ..

theorem v6_arr : (Proc.devRef .tc main_v6 : DevRef τ sig) ∈ arrs :=
  Finset.mem_map_of_mem _ (Finset.mem_image.mpr ⟨(3 : Fin 4), Finset.mem_univ _, rfl⟩)

/-! ## The call -/

abbrev adm : (p : Fin 1) → (pcfgs (F := F) p).Adm := fun p => (cfgs p).toPCfg_adm
/-- The proof data, where the segments ask for it. -/
abbrev pdats : (p : Fin 1) → (c : Dev nD) → Dat τ (Elt F) Unit ℕ UU ℕ (Pipeline.pin (pcfgs (F := F)) adm p) c := dats m

/-- What the launch keeps for the call: rights to open the copy semaphores, tokens and credits. -/
def kept₀ (c : Dev nD) : sProp 𝕄 :=
  iprop((∃ K, invs (kB m) (vB m) K c) ∗ barOf c ∗ bigSep Finset.univ fun p : Slot => iprop(openTok ER (cell c p) ∗ slotOwn c p))

/-- Opening one copy semaphore. -/
theorem open_one (K : GSem nD τ sig → ℕ) (c : Dev nD) (p : Slot) :
    iprop(invs (kB m) (vB m) K c ∗ ((openTok ER (cell c p) ∗ slotOwn c p) ∗ semVal (cell c p) 0))
      ⊢ (|={Set.univ}=> iprop((atPos ER (cell c p) 0 ∅ 0 ∗ slotOwn c p) ∗ reached ER (cell c p) 0) : sProp 𝕄) := by
  iintro ⟨#HI, ⟨Ho, Hs⟩, Hv⟩
  imod (Rounds.cell_open ER (rd (kB m) (vB m)) (g := cell c p) (Set.mem_univ (K (cell c p)))) $$ [Ho Hv] with ⟨Ha, #Hr⟩
  · isplitr; · iapply (inv_own (kB m) (vB m) K c p) $$ HI
    isplitl [Ho] <;> iassumption
  imodintro
  isplitl [Ha Hs]
  · isplitl [Ha]; · iexact Ha
    iexact Hs
  iexact Hr

/-- Opening them all. -/
theorem open_all (K : GSem nD τ sig → ℕ) (c : Dev nD) :
    iprop(invs (kB m) (vB m) K c ∗ (bigSep Finset.univ fun p : Slot => iprop(openTok ER (cell c p) ∗ slotOwn c p)) ∗ counters c)
      ⊢ (|={Set.univ}=> iprop(slotsOf c ∗ ready c) : sProp 𝕄) := by
  unfold counters slotsOf ready
  rw [← bigSep_sep', ← bigSep_sep']
  exact (bigSep_with_persistent (R := invs (kB m) (vB m) K c) fun p _ => open_one m K c p).trans (bigSep_fupd _ _)

theorem open_call (c : Dev nD) : iprop(kept₀ m c ∗ Pipeline.ownSems0 (τ := τ) sem c ∗ levAts L lv) ⊢ (|={Set.univ}=> enter m c : sProp 𝕄) := by
  rw [show (Pipeline.ownSems0 (τ := τ) sem c : sProp 𝕄) = counters c from rfl]
  unfold kept₀ enter
  iintro ⟨⟨⟨%K, #HI⟩, Hbar, Hs⟩, Hc, Hlev⟩
  imod (open_all m K c) $$ [Hs Hc] with ⟨Hs, Hr⟩
  · isplitr; · iexact HI
    isplitl [Hs] <;> iassumption
  imodintro
  isplitr; · iexists K; iexact HI
  isplitl [Hr]; · iexact Hr
  isplitl [Hlev]; · iexact Hlev
  isplitl [Hbar] <;> iassumption

theorem held_none (c : Dev nD) (W : Valuation τ sig (Elt F)) : (StableHlo.held (c : Thread nD τ) ∅ W : sProp 𝕄) = BI.emp := by
  unfold StableHlo.held; exact BI.bigSep_empty

theorem call_in (c : Dev nD) : iprop(Pipeline.scopedRest spec0 c ∗ (∃ r, prngReg c r) ∗ StableHlo.held (c : Thread nD τ) ∅ (V0 m c) ∗ enter m c)
    ⊢ ((dats m 0 c).Φ 0 : sProp 𝕄) := by
  rw [show (dats m 0 c).Φ 0 = iprop(enter m c ∗ free c) from rfl]
  unfold free
  iintro ⟨Hs, Hp, -, He⟩
  isplitl [He]; · iexact He
  isplitl [Hs] <;> iassumption

theorem call_out (c : Dev nD) : ((dats m 0 c).Φ (Fin.last cfg0.N) : sProp 𝕄)
    ⊢ iprop(Pipeline.scopedRest spec0 c ∗ (∃ r, prngReg c r) ∗ StableHlo.held (c : Thread nD τ) ∅ (V1 m c) ∗ Pipeline.ownSems0 (τ := τ) sem c ∗ semVal (barCell c) 0) := by
  rw [show (dats m 0 c).Φ (Fin.last _) = iprop(semVal (barCell c) 0 ∗ counters c ∗ free c) from rfl, held_none,
    show (Pipeline.ownSems0 (τ := τ) sem c : sProp 𝕄) = counters c from rfl]
  unfold free
  iintro ⟨Hz, Hc, Hs, Hp⟩
  isplitl [Hs]; · iexact Hs
  isplitl [Hp]; · iexact Hp
  isplitr; · iempintro
  isplitl [Hc] <;> iassumption

/-- What is owed lies above the staging waits. -/
theorem owed_above (c : Dev nD) (t : Fin (cfg0.N + 1)) (g : GSem nD τ sig) (i : Unit) (h : 0 < (dats m 0 c).owed t g i) : i ∈ L g ∧ (0 : ℕ) < lv g i := by
  have e : (dats m 0 c).owed t = if t.val = 0 then O₀ c else 0 := rfl
  rw [e] at h
  split at h
  · rcases O₀_pos h with ⟨p, rfl⟩ | rfl
    · exact ⟨mem_L _ _, by rw [lv_cell]; decide⟩
    · exact ⟨mem_L _ _, Nat.one_pos⟩
  · exact absurd h (Nat.lt_irrefl 0)

theorem stage_lv : ∀ (w : Fin 4) (s : Fin (spec0 w).nbuf), ((spec0 w).sem s).val < 4 := by decide

theorem idx3 : ∀ t : Fin grid0.N, win0_3.index t = ![0, 0] := by decide +kernel

/-- The output array after the write-back: the result. -/
theorem out_arr (c : Dev nD) : (dats m 0 c).arrAt 3 cfg0.N = V1 m c (Proc.devRef .tc main_v6) := by
  rw [V1_out]
  refine (dats m 0 c).arrAt_eq_of_covers 3 (resB m c) (by decide +kernel) fun t hf y => ?_
  blk_simp
  rw [after_3]
  refine congrArg (resB m c) ?_
  blk_ext [idx3 t]

/-- An operand's array after the call: as before. -/
theorem in_arr (c : Dev nD) (w : Fin cfg0.W) (hw : w ≠ 3) :
    (dats m 0 c).arrAt w cfg0.N = V1 m c (Proc.devRef .tc (Pipeline.arrRef spec0 w)) := by
  rw [(dats m 0 c).arrAt_in w (by revert w; decide) _, A_eq, V1_ne]
  exact StableHlo.devRef_ne_of_ne (by revert w; decide)

theorem arr_after (c : Dev nD) (w : Fin cfg0.W) :
    (dats m 0 c).arrAt w cfg0.N = V1 m c (Proc.devRef .tc (Pipeline.arrRef spec0 w)) := by
  by_cases hw : w = 3
  · subst hw; exact out_arr m c
  · exact in_arr m c w hw

theorem others_kept (c : Dev nD) : ∀ b ∈ others \ ∅, V1 m c b = V0 m c b := fun b hb =>
  V1_ne m c fun h => (Finset.mem_sdiff.mp (Finset.mem_sdiff.mp hb).1).2 (h ▸ v6_arr)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
/-- The call. -/
def callSeg : ℝ𝕊 0 :=
  Pipeline.RegionSeg.ofTalk (pcfgs (F := F)) adm (pdats m) () defs₀ 𝒱₀ L lv 0 sem (by decide : Pipeline.OwnSemFacts spec0 sem)
    ∅ others (Finset.empty_subset _) launch0.toP rfl (fun c => (body_ok m c).loose)
    (fun _ => 0) O₀ (fun c => (owed_first m c).trans (zero_add _).symm) (owed_last m) (fun _ => rfl) (fun c w => (dats m 0 c).share_full (fun _ => rfl) w)
    (V0 m) (V1 m) (others_kept m)
    (kept₀ m) (fun c => semVal (barCell c) 0) (enter m) (fun c => semVal (barCell c) 0) (open_call m) (call_in m) (call_out m)
    (fun c => by iintro H; imodintro; iexact H)
    (fun _ => 0)
    ⟨fun c w s => mem_L c _, fun c w s => Nat.le_of_eq (if_neg (Nat.not_le.mpr (stage_lv w s))), fun c t g i h => owed_above m c t g i h⟩
    (fun _ => iprop(emp))
    (fun c w => A_eq m c w) (arr_after m)

end Cert.KernelIdeal.Flow

end
-- ==== Proof.Launch.lean ====
/- The launch: every invariant is allocated, tokens and credits are dealt to the devices that use them, and the
   three segments of @main run one after another. -/
module

public import proofs.«01_k».proof.Proof.Segments
public import Idealize.ShloMosaic.Harness.Basic

@[expose] public section

noncomputable section

namespace Cert.KernelIdeal.Flow

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

/-! ## The segments -/

abbrev refs : Finset (DevRef τ sig) := Pipeline.ucRefs τ sig

/-- What a device owes after the call: nothing. -/
def settled (c : Dev nD) : sProp 𝕄 := iprop(∃ W, owes (c : Thread nD τ) (0 : CellTallies nD τ sig Unit) W)
/-- What rides beside the buffers until the call. -/
def R₀ (c : Dev nD) : sProp 𝕄 := iprop(kept₀ m c ∗ (∃ r, prngReg c r) ∗ ∃ W, owes (c : Thread nD τ) (O₀ c) W)
/-- After it. -/
def R₁ (c : Dev nD) : sProp 𝕄 := iprop(semVal (barCell c) 0 ∗ settled c)

local notation "ℍ" => Pipeline.HostSeg (Name := ℕ) (U := UU) (pcfgs (F := F)) defs₀ 𝒱₀ L lv

/-- The operations before the call. -/
def seg0 : ℍ := Pipeline.HostSeg.ofOps _ _ _ _ _ refs hostOps0
  (fun op h => Pipeline.sub_ucRefs op ((List.forall_iff_forall_mem.mp hostOps0_sub) op h))
  (fun op h => (List.forall_iff_forall_mem.mp hostOps0_fresh) op h) (Vin m) (R₀ m)
/-- The operation after it. -/
def seg2 : ℍ := Pipeline.HostSeg.ofOps _ _ _ _ _ refs hostOps1
  (fun op h => Pipeline.sub_ucRefs op ((List.forall_iff_forall_mem.mp hostOps1_sub) op h))
  (fun op h => (List.forall_iff_forall_mem.mp hostOps1_fresh) op h) (V1 m) (fun c => R₁ c)

/-- The program as the list. -/
def segs : List (Pipeline.Seg (pcfgs (F := F)) adm (pdats m) () defs₀ 𝒱₀ L lv) := [.host (seg0 m), .region (callSeg m), .host (seg2 m)]

theorem main_eq (c : Dev nD) : main (F := F) c = Pipeline.Seg.run (segs m) :=
  main_segs adm (dats m) () 𝒱₀ L lv (seg0 m) (seg2 m) (callSeg m) rfl rfl c

theorem held_split (c : Dev nD) (W : Valuation τ sig (Elt F)) :
    (StableHlo.held (c : Thread nD τ) refs W : sProp 𝕄) = iprop(StableHlo.held (c : Thread nD τ) arrs W ∗ StableHlo.held (c : Thread nD τ) others W) :=
  StableHlo.held_sub_split (c : Thread nD τ) arrs_sub W

/-- Into the call. -/
theorem call_pre (c : Dev nD) : iprop(StableHlo.held (c : Thread nD τ) refs (V0 m c) ∗ R₀ m c) ⊢ (callSeg m).pre c := by
  show _ ⊢ iprop(StableHlo.held (c : Thread nD τ) arrs (V0 m c) ∗ (∃ r, prngReg c r)
    ∗ (StableHlo.held (c : Thread nD τ) others (V0 m c) ∗ emp) ∗ kept₀ m c ∗ ∃ Wd, owes (c : Thread nD τ) (0 + O₀ c) Wd)
  rw [zero_add, held_split]
  unfold R₀
  iintro ⟨⟨Ha, Hb⟩, Hk, Hp, HO⟩
  isplitl [Ha]; · iexact Ha
  isplitl [Hp]; · iexact Hp
  isplitl [Hb]
  · isplitl [Hb]; · iexact Hb
    iempintro
  isplitl [Hk] <;> iassumption

/-- And out of it. -/
theorem call_post (c : Dev nD) : (callSeg m).post c ⊢ iprop(StableHlo.held (c : Thread nD τ) refs (V1 m c) ∗ R₁ c) := by
  show iprop(StableHlo.held (c : Thread nD τ) arrs (V1 m c) ∗ (∃ r, prngReg c r)
    ∗ (StableHlo.held (c : Thread nD τ) others (V1 m c) ∗ emp) ∗ semVal (barCell c) 0 ∗ ∃ Wd, owes (c : Thread nD τ) (0 : CellTallies nD τ sig Unit) Wd) ⊢ _
  rw [held_split]
  unfold R₁ settled
  iintro ⟨Ha, -, ⟨Hb, -⟩, Hz, HO⟩
  isplitl [Ha Hb]
  · isplitl [Ha] <;> iassumption
  isplitl [Hz] <;> iassumption

/-! ## The cells -/

def barEmb : Dev nD ↪ GSem nD τ sig := ⟨fun c => barCell c, fun _ _ h => congrArg (fun g : GSem nD τ sig => g.1.1) h⟩
def copyEmb : Dev nD × Slot ↪ GSem nD τ sig :=
  ⟨fun x => cell x.1 x.2, fun _ _ h => Prod.ext (congrArg (fun g : GSem nD τ sig => g.1.1) h) (sem_inj (congrArg Prod.snd h))⟩
abbrev barCells : Finset (GSem nD τ sig) := Finset.univ.map barEmb
abbrev copyCells : Finset (GSem nD τ sig) := Finset.univ.map copyEmb
/-- Every semaphore has one duty, in its only round. -/
def duty : GSem nD τ sig ↪ GSem nD τ sig × ℕ × Unit := ⟨fun g => (g, 0, ()), fun _ _ h => congrArg Prod.fst h⟩
def duties : Finset (GSem nD τ sig × ℕ × Unit) := (barCells ∪ copyCells).map duty

theorem disjoint_cells : Disjoint (barCells : Finset (GSem nD τ sig)) copyCells := by
  rw [Finset.disjoint_left]
  rintro g h₁ h₂
  obtain ⟨c, -, rfl⟩ := Finset.mem_map.mp h₁
  obtain ⟨x, -, h⟩ := Finset.mem_map.mp h₂
  exact sem_ne_bar x.2 (congrArg Prod.snd h)

/-- A family over all the cells, regrouped by device. -/
theorem by_device (Φ : GSem nD τ sig → sProp 𝕄) :
    bigSep (barCells ∪ copyCells) Φ = iprop((bigSep Finset.univ fun c : Dev nD => Φ (barCell c)) ∗ bigSep Finset.univ fun x : Dev nD × Slot => Φ (cell x.1 x.2)) := by
  rw [BI.bigSep_union disjoint_cells, BI.bigSep_map, BI.bigSep_map]; rfl

/-- The launch element: the pipeline's for its staging, ours for the handshake and the copies. -/
def u₀ : UU :=
  (initOf (Pipeline.cells (Pipeline.pin (pcfgs (F := F)) adm) cellOf_inj) (Pipeline.launchToks (Pipeline.pin (pcfgs (F := F)) adm) cellOf_inj),
    launchOf barCells copyCells duties)
/-- Ours, parked on device 0 until it is dealt. -/
def parked (c : Dev nD) : sProp 𝕄 := if c = 0 then BI.own (ER (launchOf barCells copyCells duties)) else iprop(emp)

theorem parked_all : bigSep Finset.univ (parked (F := F)) = BI.own (ER (launchOf barCells copyCells duties)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-! ## Dealing -/

/-- What every device may consult. -/
def records (K : GSem nD τ sig → ℕ) : sProp 𝕄 :=
  iprop((bigSep Finset.univ fun c : Dev nD => cellsOf (kB m) (vB m) K c) ∗ bigSep Finset.univ fun c : Dev nD => reached ER (barCell c) 0)

instance records_persistent (K : GSem nD τ sig → ℕ) : BI.Persistent (records m K) := by unfold records; infer_instance

theorem records_intro (K : GSem nD τ sig → ℕ) :
    iprop((bigSep (barCells ∪ copyCells) fun g => cellInv ER (rd (kB m) (vB m)) (K g) g) ∗ bigSep barCells fun g => reached ER g 0) ⊢ (records m K : sProp 𝕄) := by
  rw [by_device, BI.bigSep_map, bigSep_univ_prod, ← bigSep_sep']
  exact Entails.of_eq rfl

/-- What one device alone holds. -/
def linear (c : Dev nD) : sProp 𝕄 :=
  iprop(atPos ER (barCell c) 0 ∅ 0 ∗ dutyTok ER (barCell (pr c)) 0 () ∗ (bigSep Finset.univ fun p : Slot => openTok ER (cell c p))
    ∗ bigSep Finset.univ fun p : Slot => dutyTok ER (cell (target c p.2) p) 0 ())
/-- Its credits. -/
def funds (c : Dev nD) : sProp 𝕄 := iprop(cred (tallyAt (barCell c) () 1) ∗ bigSep Finset.univ fun p : Slot => credOf c p.1 p.2)

theorem slots_deal (c : Dev nD) :
    iprop((bigSep Finset.univ fun p : Slot => openTok ER (cell c p)) ∗ (bigSep Finset.univ fun p : Slot => dutyTok ER (cell (target c p.2) p) 0 ())
      ∗ bigSep Finset.univ fun p : Slot => credOf c p.1 p.2) ⊢ (bigSep Finset.univ fun p : Slot => iprop(openTok ER (cell c p) ∗ slotOwn c p) : sProp 𝕄) := by
  rw [← bigSep_sep', ← bigSep_sep']
  exact Entails.of_eq rfl

theorem cells_at (K : GSem nD τ sig → ℕ) (c : Dev nD) :
    (bigSep Finset.univ fun c : Dev nD => (cellsOf (kB m) (vB m) K c : sProp 𝕄)) ⊢ cellsOf (kB m) (vB m) K c := BI.bigSep_elim (Finset.mem_univ c)
theorem bar_at (c : Dev nD) : (bigSep Finset.univ fun c : Dev nD => (reached ER (barCell c) 0 : sProp 𝕄)) ⊢ reached ER (barCell c) 0 :=
  BI.bigSep_elim (Finset.mem_univ c)

theorem kept_intro (K : GSem nD τ sig → ℕ) (c : Dev nD) : iprop(records m K ∗ (linear c ∗ funds c)) ⊢ (kept₀ m c : sProp 𝕄) := by
  unfold records linear funds kept₀ barOf invs
  iintro ⟨⟨#HI, #HR⟩, ⟨Ha, Ht, Ho, Hs⟩, Hc, Hcs⟩
  isplitr
  · iexists K
    isplitr
    · iapply (cells_at m K c) $$ HI
    · iapply (cells_at m K (pr c)) $$ HI
  isplitl [Ha Ht Hc]
  · isplitl [Ha]; · iexact Ha
    isplitl [Hc]; · iexact Hc
    isplitl [Ht]; · iexact Ht
    iapply (bar_at (pr c)) $$ HR
  iapply (slots_deal c)
  isplitl [Ho]; · iexact Ho
  isplitl [Hs] <;> iassumption

/-- The two ends of a copy, over all the devices: an exchange. -/
theorem target_target (c : Dev nD) (w : Fin 4) : target (target c w) w = c := by revert c w; decide
def exchange : Dev nD × Slot ≃ Dev nD × Slot :=
  ⟨fun x => (target x.1 x.2.2, x.2), fun x => (target x.1 x.2.2, x.2), fun x => Prod.ext (target_target _ _) rfl, fun x => Prod.ext (target_target _ _) rfl⟩

/-- The tokens, each handed to the device that pays the duty. -/
theorem toks_deal : bigSep duties (fun x => (dutyTok ER x.1 x.2.1 x.2.2 : sProp 𝕄))
    ⊢ iprop((bigSep Finset.univ fun c : Dev nD => dutyTok ER (barCell (pr c)) 0 ())
      ∗ bigSep Finset.univ fun c : Dev nD => bigSep Finset.univ fun p : Slot => dutyTok ER (cell (target c p.2) p) 0 ()) := by
  unfold duties
  rw [BI.bigSep_map]
  rw [show (fun g => (dutyTok ER (duty g).1 (duty g).2.1 (duty g).2.2 : sProp 𝕄)) = fun g => dutyTok ER g 0 () from rfl, by_device,
    bigSep_univ_equiv swap (fun c : Dev nD => (dutyTok ER (barCell c) 0 () : sProp 𝕄)),
    bigSep_univ_equiv exchange (fun x : Dev nD × Slot => (dutyTok ER (cell x.1 x.2) 0 () : sProp 𝕄)), bigSep_univ_prod]
  exact Entails.of_eq rfl

/-! ## Credits -/

/-- One chunk's credits. -/
abbrev credChunk (c : Dev nD) (i : Fin 4) : sProp 𝕄 := iprop(cred (tallyAt (cell c (i, 1)) () N) ∗ cred (tallyAt (cell c (i, 3)) () N))

theorem creds_chunks (c : Dev nD) (l : List (Fin 4)) : (Pipeline.launchCred (fun d => owe d l) c : sProp 𝕄) ⊢ bigSepL l (credChunk c) := by
  induction l with
  | nil => rw [bigSepL_nil]; exact Entails.of_eq (Pipeline.launchCred_zero c)
  | cons i l ih =>
    rw [bigSepL_cons', show (fun d => owe d (i :: l)) = fun d => (owe d l + tallyAt (cell (pr d) (i, 3)) () N) + tallyAt (cell (pr d) (i, 1)) () N from rfl,
      Pipeline.launchCred_add (fun d => owe d l + tallyAt (cell (pr d) (i, 3)) () N), Pipeline.launchCred_add (fun d => owe d l)]
    iintro ⟨⟨Hl, H3⟩, H1⟩
    isplitl [H1 H3]
    · isplitl [H1]
      · iapply (Pipeline.launchCred_tallyAt (sem (i, 1)) pr pr pr_pr pr_pr () N c) $$ H1
      · iapply (Pipeline.launchCred_tallyAt (sem (i, 3)) pr pr pr_pr pr_pr () N c) $$ H3
    · iapply ih $$ Hl

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem credOf_all (c : Dev nD) : bigSepL chunks (credChunk c) ⊢ (bigSep Finset.univ fun p : Slot => credOf c p.1 p.2 : sProp 𝕄) := by
  rw [← chunks_list, bigSep_univ_prod]
  refine bigSep_mono fun i _ => ?_
  rw [four]
  show iprop(cred (tallyAt (cell c (i, 1)) () N) ∗ cred (tallyAt (cell c (i, 3)) () N)) ⊢ iprop(emp ∗ cred (tallyAt (cell c (i, 1)) () N) ∗ emp ∗ cred (tallyAt (cell c (i, 3)) () N))
  iintro ⟨H1, H3⟩
  isplitr; · iempintro
  isplitl [H1]; · iexact H1
  isplitr; · iempintro
  iexact H3

theorem creds (c : Dev nD) : (Pipeline.launchCred O₀ c : sProp 𝕄) ⊢ funds c := by
  rw [show O₀ = fun d => owe d chunks + tallyAt (barCell (pr d)) () 1 from rfl, Pipeline.launchCred_add (fun d => owe d chunks)]
  unfold funds
  iintro ⟨Hl, Hb⟩
  isplitl [Hb]
  · iapply (Pipeline.launchCred_tallyAt (.reg barS.sem) pr pr pr_pr pr_pr () 1 c) $$ Hb
  · iapply (credOf_all c)
    iapply (creds_chunks c chunks) $$ Hl

/-! ## The run -/

theorem counter_eq (c : Dev nD) : (unscopedSems0 c : sProp 𝕄) = semVal (barCell c) 0 := by
  unfold unscopedSems0
  rw [show (Finset.univ.filter fun sm : SemLoc sig => ¬ sm.isScoped .tc) = {SemLoc.reg barS.sem} from by decide, BI.bigSep_singleton]
theorem unscoped_bar : ∀ sm : SemLoc sig, sm.isScoped .tc = false → sm = .reg barS.sem := by decide

abbrev T₀ (c : Dev nD) : sProp 𝕄 := iprop(StableHlo.held (c : Thread nD τ) refs (Vin m c) ∗ R₀ m c)
abbrev Tₙ (c : Dev nD) : sProp 𝕄 := iprop(StableHlo.held (c : Thread nD τ) refs (V2 m c) ∗ semVal (barCell c) 0)

/-- What a device holds at launch beside the tokens. -/
def bundle (c : Dev nD) : sProp 𝕄 :=
  iprop(funds c ∗ StableHlo.held (c : Thread nD τ) refs (Vin m c) ∗ owes (c : Thread nD τ) (O₀ c) ∅ ∗ ∃ r, prngReg c r)

theorem T₀_intro (K : GSem nD τ sig → ℕ) (c : Dev nD) : iprop(records m K ∗ (linear c ∗ bundle m c)) ⊢ T₀ m c := by
  unfold bundle T₀ R₀
  iintro ⟨#HR, Hl, Hf, Hh, HO, Hp⟩
  isplitl [Hh]; · iexact Hh
  isplitl [Hl Hf]
  · iapply (kept_intro m K c)
    isplitr; · iexact HR
    isplitl [Hl] <;> iassumption
  isplitl [Hp]; · iexact Hp
  iexists ∅; iexact HO

/-- A device's launch holdings. -/
theorem holdings (c : Dev nD) :
    iprop(unscopedBufs c (fun b => m ((c : Thread nD τ).loc b)) ∗ unscopedSems0 c ∗ owes (c : Thread nD τ) (O₀ c) ∅ ∗ Pipeline.launchCred O₀ c
        ∗ prngReg c (ρ c) ∗ parked c)
      ⊢ (iprop(bundle m c ∗ (semVal (barCell c) 0 ∗ parked c)) : sProp 𝕄) := by
  rw [show unscopedBufs c (fun b => m ((c : Thread nD τ).loc b)) = StableHlo.held (c : Thread nD τ) refs (Vin m c) from Pipeline.unscopedBufs_held c (Vin m c),
    counter_eq]
  unfold bundle
  iintro ⟨Hh, Hz, HO, Hcr, Hp, HG⟩
  isplitl [Hh HO Hcr Hp]
  · isplitl [Hcr]; · iapply (creds c) $$ Hcr
    isplitl [Hh]; · iexact Hh
    isplitl [HO]; · iexact HO
    iexists (ρ c); iexact Hp
  isplitl [Hz] <;> iassumption

/-- The launch update: the invariants allocated, everything dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (T₀ m) : sProp 𝕄) := by
  have hz : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hopen : bigSep copyCells (fun g => (openTok ER g : sProp 𝕄))
      ⊢ bigSep Finset.univ (fun c : Dev nD => bigSep Finset.univ fun p : Slot => openTok ER (cell c p)) :=
    Entails.of_eq (by rw [BI.bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (bigSep Finset.univ fun c : Dev nD => iprop(bundle m c ∗ (semVal (barCell c) 0 ∗ parked c)) : sProp 𝕄) from bigSep_mono fun c _ => holdings m ρ c) $$ H
  ihave H2 := bigSep_unpair $$ H'; icases H2 with ⟨HB, H3⟩
  ihave H4 := bigSep_unpair $$ H3; icases H4 with ⟨Hz, HG⟩
  ihave Hu := (show bigSep Finset.univ (parked (F := F)) ⊢ BI.own (ER (launchOf barCells copyCells duties)) from Entails.of_eq parked_all) $$ HG
  imod (Rounds.fund_launch ER (rd (kB m) (vB m)) disjoint_cells (fun g _ h => h) duties) $$ [Hz Hu] with ⟨%K, -, #HI, #Hr, Hat, Hopen, Htok⟩
  · isplitl [Hz]
    · iapply hz $$ Hz
    · iexact Hu
  imodintro
  ihave HT := (toks_deal (F := F)) $$ Htok; icases HT with ⟨Htb, Hts⟩
  iapply (bigSep_with_persistent (R := records m K) (Φ := fun c => iprop(linear c ∗ bundle m c)) fun c _ => T₀_intro m K c)
  isplitr
  · iapply (records_intro m K)
    isplitr; · iexact HI
    iexact Hr
  iapply bigSep_pair
  isplitr [HB]
  · unfold linear
    iapply bigSep_pair; isplitl [Hat]; · iapply hat $$ Hat
    iapply bigSep_pair; isplitl [Htb]; · iexact Htb
    iapply bigSep_pair; isplitl [Hopen]; · iapply hopen $$ Hopen
    iexact Hts
  · iexact HB

/-- The buffers of @main, one by one. -/
theorem held_list (c : Dev nD) (W : Valuation τ sig (Elt F)) : (StableHlo.held (c : Thread nD τ) refs W : sProp 𝕄)
    = bigSepL [Proc.devRef .tc main_arg0, Proc.devRef .tc main_arg1, Proc.devRef .tc main_arg2, Proc.devRef .tc main_v7, Proc.devRef .tc main_v1,
        Proc.devRef .tc main_cst, Proc.devRef .tc main_v2, Proc.devRef .tc main_v3, Proc.devRef .tc main_v4, Proc.devRef .tc main_v5, Proc.devRef .tc main_v6]
        (fun b => (c, b) ↦{fullShare} W b) := by
  unfold StableHlo.held
  exact bigSep_eq_bigSepL_of_eq _ (by decide) (by decide) _

/-- An argument ends as launched. -/
theorem V2_arg (c : Dev nD) {b : Ref sig .tc} (h7 : b ≠ main_v7) (h6 : b ≠ main_v6) : V2 m c b = V m c b := by
  unfold V2
  rw [StableHlo.after_cons, StableHlo.after_nil, StableHlo.reshape_result_ne (h := h7)]
  exact V1_ne m c (StableHlo.devRef_ne_of_ne h6)

/-- The result: the output, reshaped. -/
def resultOf (c : Dev nD) : Buf (Elt F) ((c : Thread nD τ).loc main_v7) := StableHlo.after hostOps1 (V1 m c) (Proc.devRef .tc main_v7)

set_option backward.isDefEq.respectTransparency.types false in
/-- From any memory with zero counters every fair execution of @main on the eight devices ends, each with its arguments
    as they were, its result computed from its own and its partner's operands, and every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v7) = resultOf m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀)
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := by
      refine ⟨fun c => .rfl, fun c => call_pre m c, fun c => call_post m c, fun c => ?_⟩
      show iprop(StableHlo.held (c : Thread nD τ) refs (V2 m c) ∗ R₁ c)
        ⊢ iprop(Tₙ m c ∗ ∃ W, owes (c : Thread nD τ) (0 : CellTallies nD τ sig Unit) W)
      unfold R₁ settled
      iintro ⟨Hh, Hz, HO⟩
      isplitr [HO]
      · isplitl [Hh] <;> iassumption
      · iexact HO)
    (hinit := init m ρ)
    (QY := fun c s => (s.mem ((c : Thread nD τ).loc main_arg0) = V2 m c main_arg0 ∧ s.mem ((c : Thread nD τ).loc main_arg1) = V2 m c main_arg1
        ∧ s.mem ((c : Thread nD τ).loc main_arg2) = V2 m c main_arg2 ∧ s.mem ((c : Thread nD τ).loc main_v7) = V2 m c main_v7)
      ∧ s.sem (barCell c) = 0)
    (hfin := fun c s' => by
      dsimp only [Tₙ]; rw [held_list, bigSepL_cons', bigSepL_cons', bigSepL_cons', bigSepL_cons']
      iintro ⟨⟨⟨H0, H1, H2, H7, -⟩, Hz⟩, HSI⟩
      icombine HSI H0 gives %h0
      icombine HSI H1 gives %h1
      icombine HSI H2 gives %h2
      icombine HSI H7 gives %h7
      icombine HSI Hz gives %hz
      imodintro
      isplitr
      · ipureintro
        exact ⟨⟨Buf.eq_of_forall_mem_univ h0, Buf.eq_of_forall_mem_univ h1, Buf.eq_of_forall_mem_univ h2, Buf.eq_of_forall_mem_univ h7⟩, by simpa using hz⟩
      iexact HSI)
    (hQ := fun s h hs => ⟨fun c => by
        obtain ⟨⟨h0, h1, h2, h7⟩, -⟩ := h c
        exact ⟨(h0.trans (V2_arg m c (by decide) (by decide))).trans (V_main_arg0 m c),
          (h1.trans (V2_arg m c (by decide) (by decide))).trans (V_main_arg1 m c),
          (h2.trans (V2_arg m c (by decide) (by decide))).trans (V_main_arg2 m c), h7⟩,
      sem_eq_zero hs fun c sm hsm => by
        obtain rfl := unscoped_bar sm hsm
        exact (h c).2⟩)

end Cert.KernelIdeal.Flow

end
-- ==== Proof.Values.lean ====
/- The kernel's result over the ideal numbers, element by element: a weighted sum of values over the sum of the weights, the
   device's own keys first and then its partner's, chunk by chunk. -/
module

public import proofs.«01_k».proof.Proof.Contents
public import Idealize.ShloMosaic.Lib.Pointwise

@[expose] public section

noncomputable section

namespace Cert.KernelIdeal.Flow

open Idealize.ShloMosaic Idealize.ShloMosaic.TcCoe
open Cert.KernelIdeal Cert.KernelIdeal.Gen

/-! ## The steps at an element -/

theorem weights_at (q k : Vec Ideal S1024x128 .bf16) (r t : Fin 1024) :
    weights q k (ix2 r t) = Ideal.exp (∑ e : Fin 128, q (ix2 r e) * k (ix2 t e)) := by
  pointwise [weights]

theorem localOut_at (q k v : Vec Ideal S1024x128 .bf16) (r : Fin 1024) (d : Fin 128) :
    localOut q k v (ix2 r d) = ∑ t : Fin 1024, weights q k (ix2 r t) * v (ix2 t d) := by
  pointwise [localOut]

theorem localDen_at (q k : Vec Ideal S1024x128 .bf16) (r : Fin 1024) :
    localDen q k (ix2 r 0) = ∑ t : Fin 1024, weights q k (ix2 r t) := by
  pointwise [localDen]

theorem tileWeights_at (q : Vec Ideal S1024x128 .bf16) (k : Vec Ideal S256x128 .bf16) (r : Fin 1024) (t : Fin 256) :
    tileWeights q k (ix2 r t) = Ideal.exp (∑ e : Fin 128, q (ix2 r e) * k (ix2 t e)) := by
  pointwise [tileWeights]

theorem tileOut_at (q : Vec Ideal S1024x128 .bf16) (k v : Vec Ideal S256x128 .bf16) (o : Vec Ideal S1024x128 .f32) (r : Fin 1024) (d : Fin 128) :
    tileOut q k v o (ix2 r d) = o (ix2 r d) + ∑ t : Fin 256, tileWeights q k (ix2 r t) * v (ix2 t d) := by
  pointwise [tileOut]

theorem tileDen_at (q : Vec Ideal S1024x128 .bf16) (k : Vec Ideal S256x128 .bf16) (l : Vec Ideal S1024x1 .f32) (r : Fin 1024) :
    tileDen q k l (ix2 r 0) = l (ix2 r 0) + ∑ t : Fin 256, tileWeights q k (ix2 r t) := by
  pointwise [tileDen]

theorem quotient_at (o : Vec Ideal S1024x128 .f32) (l : Vec Ideal S1024x1 .f32) (r : Fin 1024) (d : Fin 128) :
    quotient o l (ix2 r d) = Ideal.div (o (ix2 r d)) (l (ix2 r 0)) := by
  pointwise [quotient]

/-! ## A head's columns -/

/-- The lane of head `h`'s element `e`. -/
def lane (h : Fin 16) (e : Fin 128) : Fin 2048 := ⟨128 * h.val + e.val, by omega⟩
/-- The row of chunk `i`'s row `t`. -/
def chunkRow (i : Fin 4) (t : Fin 256) : Fin 1024 := ⟨256 * i.val + t.val, by omega⟩

theorem col_at {e : EltTy} (b : Vec Ideal S1024x2048 e) (h : Fin 16) (r : Fin 1024) (d : Fin 128) : col b h (ix2 r d) = b (ix2 r (lane h d)) := by
  unfold col
  refine congrArg b ((eq_ix2 _).trans ?_)
  congr 1
  · exact Fin.ext (col_row h _)
  · exact Fin.ext (col_lane h _)

theorem tile_row (i : Fin 4) (h : Fin 16) (x : S256x128.Idx) : ((tileR i h).emb x 0).val = 256 * i.val + (x 0).val := by
  rw [Rect.emb_apply]; show 256 * i.val + 1 * (x 0).val = _; omega
theorem tile_lane (i : Fin 4) (h : Fin 16) (x : S256x128.Idx) : ((tileR i h).emb x 1).val = 128 * h.val + (x 1).val := by
  rw [Rect.emb_apply]; show 128 * h.val + 1 * (x 1).val = _; omega

theorem tile_at (b : Blk Ideal) (i : Fin 4) (h : Fin 16) (t : Fin 256) (d : Fin 128) : tile b i h (ix2 t d) = b (ix2 (chunkRow i t) (lane h d)) := by
  unfold tile
  refine congrArg b ((eq_ix2 _).trans ?_)
  congr 1
  · exact Fin.ext (tile_row i h _)
  · exact Fin.ext (tile_lane i h _)

/-- A sum over the rows is the sum of the chunks' sums. -/
theorem sum_chunks (f : Fin 1024 → EReal) :
    ∑ t : Fin 1024, f t = ∑ i : Fin 4, ∑ t : Fin 256, f (chunkRow i t) := by
  rw [← Fintype.sum_prod_type']
  refine (Fintype.sum_equiv (finProdFinEquiv (m := 4) (n := 256)) _ _ fun x => ?_).symm
  refine congrArg f (Fin.ext ?_)
  show 256 * x.1.val + x.2.val = x.2.val + 256 * x.1.val
  omega

/-! ## A head's result -/

/-- The weight of key row `t` for query row `r` in head `h`. -/
def wt (q k : Blk Ideal) (h : Fin 16) (r t : Fin 1024) : EReal :=
  Ideal.exp (∑ e : Fin 128, q (ix2 r (lane h e)) * k (ix2 t (lane h e)))

theorem weights_col (q k : Blk Ideal) (h : Fin 16) (r t : Fin 1024) : weights (col q h) (col k h) (ix2 r t) = wt q k h r t := by
  rw [weights_at]
  simp only [col_at]
  rfl
theorem tileWeights_col (q k : Blk Ideal) (i : Fin 4) (h : Fin 16) (r : Fin 1024) (t : Fin 256) :
    tileWeights (col q h) (tile k i h) (ix2 r t) = wt q k h r (chunkRow i t) := by
  rw [tileWeights_at]
  simp only [col_at, tile_at]
  rfl

/-- The numerator a block of keys adds. -/
def numer (q k v : Blk Ideal) (h : Fin 16) (r : Fin 1024) (d : Fin 128) : EReal :=
  ∑ t : Fin 1024, wt q k h r t * v (ix2 t (lane h d))
/-- The denominator a block of keys adds. -/
def denom (q k : Blk Ideal) (h : Fin 16) (r : Fin 1024) : EReal := ∑ t : Fin 1024, wt q k h r t

theorem tilesHd_out (q kr vr : Blk Ideal) (h : Fin 16) (r : Fin 1024) (d : Fin 128) : ∀ (l : List (Fin 4)) (a : Hd Ideal),
    (tilesHd (col q h) kr vr h l a).1 (ix2 r d)
      = a.1 (ix2 r d) + (l.map fun i => ∑ t : Fin 256, wt q kr h r (chunkRow i t) * vr (ix2 (chunkRow i t) (lane h d))).sum
  | [], a => (add_zero _).symm
  | i :: l, a => by
    unfold tilesHd
    rw [List.foldl_cons, List.map_cons, List.sum_cons, ← add_assoc]
    refine (tilesHd_out q kr vr h r d l _).trans ?_
    congr 1
    unfold tileHd
    refine (tileOut_at _ _ _ _ r d).trans ?_
    simp only [tileWeights_col, tile_at]
theorem tilesHd_den (q kr vr : Blk Ideal) (h : Fin 16) (r : Fin 1024) : ∀ (l : List (Fin 4)) (a : Hd Ideal),
    (tilesHd (col q h) kr vr h l a).2 (ix2 r 0)
      = a.2 (ix2 r 0) + (l.map fun i => ∑ t : Fin 256, wt q kr h r (chunkRow i t)).sum
  | [], a => (add_zero _).symm
  | i :: l, a => by
    unfold tilesHd
    rw [List.foldl_cons, List.map_cons, List.sum_cons, ← add_assoc]
    refine (tilesHd_den q kr vr h r l _).trans ?_
    congr 1
    unfold tileHd
    refine (tileDen_at _ _ _ r).trans ?_
    simp only [tileWeights_col]

theorem sum_list (f : Fin 4 → EReal) : (chunks.map f).sum = ∑ i : Fin 4, f i := by
  unfold chunks
  simp only [List.map_cons, List.map_nil, List.sum_cons, List.sum_nil, Fin.sum_univ_four, add_zero, add_assoc]

/-- A head's result: the two blocks' numerators over the two blocks' denominators. -/
theorem headOut_at (q k v kr vr : Blk Ideal) (h : Fin 16) (r : Fin 1024) (d : Fin 128) :
    headOut q k v kr vr h (ix2 r d)
      = Ideal.div (numer q k v h r d + numer q kr vr h r d) (denom q k h r + denom q kr h r) := by
  unfold headOut divHd
  refine (quotient_at _ _ r d).trans ?_
  rw [tilesHd_out, tilesHd_den, sum_list, sum_list]
  unfold localHd
  dsimp only
  rw [localOut_at, localDen_at]
  simp only [weights_col, col_at]
  unfold numer denom
  rw [← sum_chunks (fun t => wt q kr h r t * vr (ix2 t (lane h d))), ← sum_chunks (fun t => wt q kr h r t)]

/-- The result buffer at a head's element. -/
theorem outB_at (q k v kr vr : Blk Ideal) (h : Fin 16) (r : Fin 1024) (d : Fin 128) :
    outB q k v kr vr (ix2 r (lane h d)) = headOut q k v kr vr h (ix2 r d) := by
  have hh : headOf (ix2 r (lane h d)) = h := by
    apply Fin.ext
    show (128 * h.val + d.val) / 128 = h.val
    omega
  have hi : inHead (ix2 r (lane h d)) = ix2 r d := by
    refine (eq_ix2 _).trans ?_
    congr 1
    apply Fin.ext
    show (128 * h.val + d.val) % 128 = d.val
    omega
  unfold outB
  rw [hh, hi]

end Cert.KernelIdeal.Flow

end
-- ==== Proof.Arrays.lean ====
/- The kernel's arrays in terms of @main's arguments: what the call reads and what its result is reshaped to. -/
module

public import proofs.«01_k».proof.Proof.Segments
public import proofs.«01_k».proof.Proof.Values
public import proofs.«01_k».proof.Proof.Launch

@[expose] public section

noncomputable section

namespace Cert.KernelIdeal.Flow

open Idealize.ShloMosaic Idealize.ShloMosaic.TcCoe
open Cert.KernelIdeal Cert.KernelIdeal.Gen

variable {F : FTy → Type} [FloatOps F]
variable (m : (ℓ : Loc nD τ sig) → Buf (Elt F) ℓ)

/-! ## What the call reads -/

/-- The scaled queries. -/
theorem V_q (c : Dev nD) : V m c main_v3 = mulf (shapeCast S1024x2048 (m ((c : Thread nD τ).loc main_arg0)) shapeCasts_S1x1024x16x128_S1024x2048)
    (broadcastInDim S1024x2048 ![] bcast_S_S1024x2048 (constant S_ .bf16 0x3DB5#16)) := by
  show StableHlo.after hostOps0 (fun b => m (c, b)) (Proc.devRef .tc main_v3) = _
  after_results
  rfl
/-- The keys. -/
theorem V_k (c : Dev nD) : V m c main_v4 = shapeCast S1024x2048 (m ((c : Thread nD τ).loc main_arg1)) shapeCasts_S1x1024x16x128_S1024x2048 := by
  show StableHlo.after hostOps0 (fun b => m (c, b)) (Proc.devRef .tc main_v4) = _
  after_results
  rfl
/-- The values. -/
theorem V_v (c : Dev nD) : V m c main_v5 = shapeCast S1024x2048 (m ((c : Thread nD τ).loc main_arg2)) shapeCasts_S1x1024x16x128_S1024x2048 := by
  show StableHlo.after hostOps0 (fun b => m (c, b)) (Proc.devRef .tc main_v5) = _
  after_results
  rfl
/-- The kernel's result. -/
theorem result_eq (c : Dev nD) : resultOf m c = shapeCast S1x1024x16x128 (resB m c) shapeCasts_S1024x2048_S1x1024x16x128 := by
  rw [← V1_out]
  show StableHlo.after hostOps1 (V1 m c) (Proc.devRef .tc main_v7) = _
  after_results
  rfl

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel

/-- A window holds its whole array. -/
theorem q_arr (c : Dev nD) : qB m c = V m c main_v3 := funext fun x => by
  unfold qB
  blk_simp [iblk]
  refine congrArg (V m c main_v3) ?_
  blk_ext [idx0 t0_0]
theorem k_arr (c : Dev nD) : kB m c = V m c main_v4 := funext fun x => by
  unfold kB
  blk_simp [iblk]
  refine congrArg (V m c main_v4) ?_
  blk_ext [idx1 t0_0]
theorem v_arr (c : Dev nD) : vB m c = V m c main_v5 := funext fun x => by
  unfold vB
  blk_simp [iblk]
  refine congrArg (V m c main_v5) ?_
  blk_ext [idx2 t0_0]

/-! ## At an element, over the ideal numbers -/

variable (n : (ℓ : Loc nD τ sig) → Buf (Elt Ideal) ℓ)

/-- The arguments a device holds. -/
abbrev argQ (c : Dev nD) : FVec Ideal S1x1024x16x128 .bf16 := n ((c : Thread nD τ).loc main_arg0)
abbrev argK (c : Dev nD) : FVec Ideal S1x1024x16x128 .bf16 := n ((c : Thread nD τ).loc main_arg1)
abbrev argV (c : Dev nD) : FVec Ideal S1x1024x16x128 .bf16 := n ((c : Thread nD τ).loc main_arg2)

/-- Flattening the heads and their elements. -/
theorem flat_at (x : FVec Ideal S1x1024x16x128 .bf16) (r : Fin 1024) (h : Fin 16) (e : Fin 128) :
    shapeCast S1024x2048 x shapeCasts_S1x1024x16x128_S1024x2048 (ix2 r (lane h e)) = x (ix4 0 r h e) := by
  pointwise
  refine congrArg x ?_
  congr 1
  · apply Fin.ext
    show (128 * h.val + e.val) / 128 = h.val
    omega
  · apply Fin.ext
    show (128 * h.val + e.val) % 128 = e.val
    omega
/-- And the other way. -/
theorem unflat_at (x : FVec Ideal S1024x2048 .f32) (r : Fin 1024) (h : Fin 16) (e : Fin 128) :
    shapeCast S1x1024x16x128 x shapeCasts_S1024x2048_S1x1024x16x128 (ix4 0 r h e) = x (ix2 r (lane h e)) := by
  pointwise
  refine congrArg x ?_
  congr 1
  apply Fin.ext
  show h.val * 128 + e.val = 128 * h.val + e.val
  omega

/-- Scaling by the printed constant. -/
theorem scaled_at (x : FVec Ideal S1024x2048 .bf16) (j : S1024x2048.Idx) :
    mulf x (broadcastInDim S1024x2048 ![] bcast_S_S1024x2048 (constant S_ .bf16 0x3DB5#16)) j = x j * Ideal.ofBits .bf16 0x3DB5#16 := rfl

theorem q_at (c : Dev nD) (r : Fin 1024) (h : Fin 16) (e : Fin 128) :
    qB n c (ix2 r (lane h e)) = argQ n c (ix4 0 r h e) * Ideal.ofBits .bf16 0x3DB5#16 := by
  rw [q_arr, V_q]
  exact (scaled_at _ _).trans (congrArg (· * _) (flat_at (argQ n c) r h e))
theorem k_at (c : Dev nD) (r : Fin 1024) (h : Fin 16) (e : Fin 128) : kB n c (ix2 r (lane h e)) = argK n c (ix4 0 r h e) := by
  rw [k_arr, V_k]
  exact flat_at (argK n c) r h e
theorem v_at (c : Dev nD) (r : Fin 1024) (h : Fin 16) (e : Fin 128) : vB n c (ix2 r (lane h e)) = argV n c (ix4 0 r h e) := by
  rw [v_arr, V_v]
  exact flat_at (argV n c) r h e

/-- The weight that device `b`'s key row `t` has for device `c`'s query row `r`. -/
def weight (c b : Dev nD) (h : Fin 16) (r t : Fin 1024) : EReal :=
  Ideal.exp (∑ e : Fin 128, argQ n c (ix4 0 r h e) * Ideal.ofBits .bf16 0x3DB5#16 * argK n b (ix4 0 t h e))

theorem wt_at (c b : Dev nD) (h : Fin 16) (r t : Fin 1024) : wt (qB n c) (kB n b) h r t = weight n c b h r t := by
  unfold wt weight
  exact congrArg Ideal.exp (Finset.sum_congr rfl fun e _ => congrArg₂ (· * ·) (q_at n c r h e) (k_at n b t h e))

/-- The kernel's result on device `c`: the values of the device and of its partner, weighted, over the weights' sum. -/
theorem result_at (c : Dev nD) (r : Fin 1024) (h : Fin 16) (d : Fin 128) :
    (resultOf n c : FVec Ideal S1x1024x16x128 .f32) (ix4 0 r h d)
      = Ideal.div
          ((∑ t : Fin 1024, weight n c c h r t * argV n c (ix4 0 t h d)) + ∑ t : Fin 1024, weight n c (pr c) h r t * argV n (pr c) (ix4 0 t h d))
          ((∑ t : Fin 1024, weight n c c h r t) + ∑ t : Fin 1024, weight n c (pr c) h r t) := by
  rw [result_eq]
  refine (unflat_at (resB n c) r h d).trans ?_
  unfold resB
  rw [outB_at, headOut_at]
  unfold numer denom
  have hn : ∀ b : Dev nD, ∑ t : Fin 1024, wt (qB n c) (kB n b) h r t * vB n b (ix2 t (lane h d))
      = ∑ t : Fin 1024, weight n c b h r t * argV n b (ix4 0 t h d) := fun b =>
    Finset.sum_congr rfl fun t _ => congrArg₂ (· * ·) (wt_at n c b h r t) (v_at n b t h d)
  have hd : ∀ b : Dev nD, ∑ t : Fin 1024, wt (qB n c) (kB n b) h r t = ∑ t : Fin 1024, weight n c b h r t := fun b =>
    Finset.sum_congr rfl fun t _ => wt_at n c b h r t
  rw [hn c, hn (pr c), hd c, hd (pr c)]

end Cert.KernelIdeal.Flow

end
-- ==== Proof.Reference.lean ====
/- The reference's result over the ideal numbers, element by element. -/
module

public import proofs.«01_k».proof.Proof.Gen.ReferenceIdeal.Run
public import Idealize.ShloMosaic.Lib.Pointwise

@[expose] public section

noncomputable section

namespace Cert.ReferenceIdeal.Softmax

open Idealize.ShloMosaic Idealize.ShloMosaic.TcCoe
open Cert.ReferenceIdeal Cert.ReferenceIdeal.Gen

/-- A whole array of queries, keys or values. -/
abbrev Arr := FVec Ideal S1x2048x16x128 .bf16

/-- The scaling the two programs print. -/
def scale : EReal := Ideal.ofBits .bf16 0x3DB5#16

/-! ## The reference, in steps -/

/-- The scaled products of queries and keys. -/
def scores (Q K : Arr) : FVec Ideal S1x16x2048x2048 .bf16 :=
  mulf (truncf .bf16 (Host.dotGeneral dot_S1x2048x16x128_S1x2048x16x128_S1x16x2048x2048_3_3_1_1_02_02 none Q K) bitsLt_bf16_f32)
    (broadcastInDim S1x16x2048x2048 ![] bcast_S_S1x16x2048x2048 (constant S_ .bf16 0x3DB5#16))
/-- Each query's largest score. -/
def largest (Q K : Arr) : FVec Ideal S1x16x2048 .bf16 :=
  Host.reduce FloatOps.maximumf (scores Q K) (constant S_ .bf16 0xFF80#16) reducesTo_S1x16x2048x2048_S1x16x2048_d3 h_S_
/-- The exponentials, the largest score taken off first. -/
def exps (Q K : Arr) : FVec Ideal S1x16x2048x2048 .bf16 :=
  Host.exp (subf (scores Q K) (broadcastInDim S1x16x2048x2048 ![0, 1, 2, 3] bcast_S1x16x2048x1_S1x16x2048x2048_0_1_2_3
    (broadcastInDim S1x16x2048x1 ![0, 1, 2] bcast_S1x16x2048_S1x16x2048x1_0_1_2 (largest Q K))))
/-- Each query's sum of exponentials. -/
def total (Q K : Arr) : FVec Ideal S1x16x2048 .f32 :=
  Host.reduceAdd (extf .f32 (exps Q K) bitsLt_bf16_f32) (constant S_ .f32 0x00000000#32) reducesTo_S1x16x2048x2048_S1x16x2048_d3 h_S_
/-- The probabilities. -/
def probs (Q K : Arr) : FVec Ideal S1x16x2048x2048 .bf16 :=
  Host.divf (exps Q K) (broadcastInDim S1x16x2048x2048 ![0, 1, 2, 3] bcast_S1x16x2048x1_S1x16x2048x2048_0_1_2_3
    (truncf .bf16 (broadcastInDim S1x16x2048x1 ![0, 1, 2] bcast_S1x16x2048_S1x16x2048x1_0_1_2 (total Q K)) bitsLt_bf16_f32))
/-- The result. -/
def answer (Q K V : Arr) : FVec Ideal S1x2048x16x128 .f32 :=
  extf .f32 (truncf .bf16 (transpose S1x2048x16x128 [0, 3, 1, 2]
    (Host.dotGeneral dot_S1x2048x16x128_S1x16x2048x2048_S1x16x128x2048_1_3_3_2_02_01 none V (probs Q K))
    transposes_S1x16x128x2048_S1x2048x16x128_0_3_1_2) bitsLt_bf16_f32) bitsLt_bf16_f32

/-! ## At an element -/

/-- A score. -/
theorem scores_at (Q K : Arr) (h : Fin 16) (r t : Fin 2048) :
    scores Q K (ix4 0 h r t) = (∑ e : Fin 128, Q (ix4 0 r h e) * K (ix4 0 t h e)) * scale := by
  pointwise [scores, scale]
/-- The largest score. -/
theorem largest_at (Q K : Arr) (h : Fin 16) (r : Fin 2048) :
    largest Q K (ix3 0 h r) = Finset.univ.fold max (Ideal.ofBits .bf16 0xFF80#16) fun t : Fin 2048 => scores Q K (ix4 0 h r t) := by
  pointwise [largest]
/-- An exponential. -/
theorem exps_at (Q K : Arr) (h : Fin 16) (r t : Fin 2048) :
    exps Q K (ix4 0 h r t) = Ideal.exp (scores Q K (ix4 0 h r t) - largest Q K (ix3 0 h r)) := by
  pointwise [exps]
/-- A sum of exponentials. -/
theorem total_at (Q K : Arr) (h : Fin 16) (r : Fin 2048) : total Q K (ix3 0 h r) = ∑ t : Fin 2048, exps Q K (ix4 0 h r t) := by
  pointwise [total]
/-- A probability. -/
theorem probs_at (Q K : Arr) (h : Fin 16) (r t : Fin 2048) :
    probs Q K (ix4 0 h r t) = Ideal.div (exps Q K (ix4 0 h r t)) (total Q K (ix3 0 h r)) := by
  pointwise [probs]
/-- The result. -/
theorem answer_at (Q K V : Arr) (r : Fin 2048) (h : Fin 16) (d : Fin 128) :
    answer Q K V (ix4 0 r h d) = ∑ t : Fin 2048, V (ix4 0 t h d) * probs Q K (ix4 0 h r t) := by
  pointwise [answer]

/-- The reference leaves it. -/
theorem run_answer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
        = answer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.ReferenceIdeal.Softmax

end
-- ==== Proof.Softmax.lean ====
/- Weighted sums of extended reals under real weights: a softmax does not change when a real number is taken off every score, and
   dividing the weights is dividing the sum. The values may be infinite; the scores may not. -/
module

public import Idealize.ShloMosaic.Lib.Pointwise

@[expose] public section

noncomputable section

namespace Cert.Softmax

open Idealize.ShloMosaic

/-- An extended real that is a real number. -/
def IsReal (x : EReal) : Prop := ∃ r : ℝ, x = (r : EReal)

/-- A number whose size is below the largest one is real. -/
theorem real_of_abs {x : EReal} (h : (x ⊔ -x) < ⊤) : IsReal x := by
  induction x using EReal.rec with
  | bot => exact absurd h (by simp)
  | top => exact absurd h (by simp)
  | coe r => exact ⟨r, rfl⟩

/-- A sum of real numbers. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into a sum. -/
theorem sum_mul {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- Division by a positive real. -/
theorem div_pos (x : EReal) {y : ℝ} (hy : 0 < y) : Ideal.div x (y : EReal) = x * ((y⁻¹ : ℝ) : EReal) := by
  unfold Ideal.div
  rw [if_neg (by exact_mod_cast hy.ne'), EReal.coe_inv]

/-- The constant that the two programs scale by is real. -/
theorem real_scale : IsReal (Ideal.ofBits .bf16 0x3DB5#16) := by
  show IsReal (Ideal.ieee 8 7 0x3DB5#16)
  unfold Ideal.ieee
  rw [if_neg (by decide), if_neg (by decide)]
  exact ⟨_, rfl⟩

/-- The constant that the reference starts its largest score at is the least number. -/
theorem least : Ideal.ofBits .bf16 0xFF80#16 = ⊥ := by
  show Ideal.ieee 8 7 0xFF80#16 = _
  unfold Ideal.ieee
  rw [if_pos (by decide), if_pos (by decide), if_pos (by decide)]

/-- The largest of some real numbers is real. -/
theorem real_max {ι : Type} [Fintype ι] [Nonempty ι] (s : ι → ℝ) : IsReal (Finset.univ.fold max ⊥ fun i => (s i : EReal)) := by
  classical
  have key : ∀ t : Finset ι, t.fold max ⊥ (fun i => (s i : EReal)) = ⊥ ∧ t = ∅ ∨ IsReal (t.fold max ⊥ fun i => (s i : EReal)) := by
    intro t
    induction t using Finset.induction_on with
    | empty => exact .inl ⟨Finset.fold_empty, rfl⟩
    | insert a t ha ih =>
      right
      rw [Finset.fold_insert ha]
      rcases ih with ⟨h, -⟩ | ⟨r, h⟩
      · exact ⟨s a, by rw [h]; exact max_eq_left bot_le⟩
      · rw [h]
        rcases max_choice (s a : EReal) (r : EReal) with h' | h'
        · exact ⟨s a, h'⟩
        · exact ⟨r, h'⟩
  rcases key Finset.univ with ⟨-, h⟩ | h
  · exact absurd h Finset.univ_nonempty.ne_empty
  · exact h

/-- A softmax-weighted sum, with a real number taken off every score and the weights divided, or with neither. -/
theorem shift {ι : Type} [Fintype ι] [Nonempty ι] (s : ι → ℝ) (m : ℝ) (v : ι → EReal) :
    Ideal.div (∑ i, Ideal.exp (s i : EReal) * v i) (∑ i, Ideal.exp (s i : EReal))
      = ∑ i, v i * Ideal.div (Ideal.exp ((s i : EReal) - (m : EReal))) (∑ j, Ideal.exp ((s j : EReal) - (m : EReal))) := by
  have he : ∀ x : ℝ, Ideal.exp (x : EReal) = (Real.exp x : EReal) := fun _ => rfl
  simp only [← EReal.coe_sub, he, ← coe_sum]
  have hE : 0 < ∑ i, Real.exp (s i) := Finset.sum_pos (fun i _ => Real.exp_pos _) Finset.univ_nonempty
  have hE' : 0 < ∑ i, Real.exp (s i - m) := Finset.sum_pos (fun i _ => Real.exp_pos _) Finset.univ_nonempty
  have hq : ∀ i, Real.exp (s i - m) * (∑ j, Real.exp (s j - m))⁻¹ = Real.exp (s i) * (∑ j, Real.exp (s j))⁻¹ := fun i => by
    have h : ∀ j, Real.exp (s j - m) = Real.exp (s j) * Real.exp (-m) := fun j => by rw [sub_eq_add_neg, Real.exp_add]
    simp only [h, ← Finset.sum_mul]
    have := Real.exp_pos (-m)
    field_simp
  rw [div_pos _ hE, sum_mul _ _ (inv_nonneg.mpr hE.le)]
  refine Finset.sum_congr rfl fun i _ => ?_
  rw [div_pos _ hE', ← EReal.coe_mul, hq i, EReal.coe_mul, mul_comm (v i), mul_right_comm]

/-- Scaling the queries is scaling the scores, where everything is real. -/
theorem scaled {ι : Type} [Fintype ι] {q k : ι → EReal} {c : EReal} (hq : ∀ e, IsReal (q e)) (hk : ∀ e, IsReal (k e)) (hc : IsReal c) :
    ∃ r : ℝ, ∑ e, q e * c * k e = (r : EReal) ∧ (∑ e, q e * k e) * c = (r : EReal) := by
  choose q' hq' using hq
  choose k' hk' using hk
  obtain ⟨c', rfl⟩ := hc
  refine ⟨∑ e, q' e * c' * k' e, ?_, ?_⟩
  · rw [coe_sum]
    exact Finset.sum_congr rfl fun e _ => by rw [hq', hk', EReal.coe_mul, EReal.coe_mul]
  · have : ∑ e, q e * k e = ((∑ e, q' e * k' e : ℝ) : EReal) := by
      rw [coe_sum]
      exact Finset.sum_congr rfl fun e _ => by rw [hq', hk', EReal.coe_mul]
    rw [this, ← EReal.coe_mul, Finset.sum_mul]
    exact congrArg _ (Finset.sum_congr rfl fun e _ => by ring)

/-- The two ways to compute one element of an attention: with the queries scaled and no largest score taken off, and the
    reference's. -/
theorem attention {ι κ : Type} [Fintype ι] [Nonempty ι] [Fintype κ] {q : κ → EReal} {k : ι → κ → EReal} {c : EReal} (v : ι → EReal)
    (hq : ∀ e, IsReal (q e)) (hk : ∀ t e, IsReal (k t e)) (hc : IsReal c) :
    Ideal.div (∑ t, Ideal.exp (∑ e, q e * c * k t e) * v t) (∑ t, Ideal.exp (∑ e, q e * c * k t e))
      = ∑ t, v t * Ideal.div (Ideal.exp ((∑ e, q e * k t e) * c - Finset.univ.fold max ⊥ fun t => (∑ e, q e * k t e) * c))
          (∑ t', Ideal.exp ((∑ e, q e * k t' e) * c - Finset.univ.fold max ⊥ fun t => (∑ e, q e * k t e) * c)) := by
  choose s hs hs' using fun t => scaled hq (hk t) hc
  simp only [hs, hs']
  obtain ⟨m, hm⟩ := real_max s
  rw [hm]
  exact shift s m v

end Cert.Softmax

end
-- ==== Proof.Agreement.lean ====
/- The kernel's result on every device is that device's block of the reference's, over the ideal numbers. -/
module

public import proofs.«01_k».proof.Defs
public import proofs.«01_k».proof.Proof.Arrays
public import proofs.«01_k».proof.Proof.Reference
public import proofs.«01_k».proof.Proof.Softmax
public import Idealize.ShloMosaic.Lib.ReduceAll
public import Idealize.ShloMosaic.Lib.Affine

@[expose] public section

noncomputable section

namespace Cert.Agreement

open Idealize.ShloMosaic Idealize.ShloMosaic.TcCoe
open Cert.KernelIdeal (nD τ sig S1x1024x16x128)
open Cert.KernelIdeal.Flow (pr argQ argK argV weight result_at resultOf)
open Cert.ReferenceIdeal (S1x2048x16x128)
open Cert.ReferenceIdeal.Softmax (answer answer_at probs_at total_at exps_at largest_at scores_at scale)
open Cert.Softmax (IsReal)

/-! ## The precondition -/

section Pre
variable [Cert.Pre_finite_KernelIdeal.Facts]

/-- A number whose size is below the largest one, as the predicate asks it. -/
theorem real_of_lt {x : Ideal .bf16} (h : FloatOps.cmpf .olt (FloatOps.hostAbsf x) (Ideal.ofBits .bf16 0x7F80#16) = 1#1) : IsReal x := by
  have ht : Ideal.ofBits .bf16 0x7F80#16 = ⊤ := by
    show Ideal.ieee 8 7 0x7F80#16 = _
    unfold Ideal.ieee
    rw [if_pos (by decide), if_pos (by decide), if_neg (by decide)]
  rw [ht] at h
  have h' : BitVec.ofBool (decide (max (x : EReal) (-x) < ⊤)) = 1#1 := h
  refine Cert.Softmax.real_of_abs ?_
  by_contra hn
  rw [decide_eq_false hn] at h'
  exact absurd h' (by decide)

/-- The predicate over a device's arguments says that its queries and keys are real. -/
theorem real_args (q k v : FVec Ideal S1x1024x16x128 .bf16) (h : Cert.Pre_finite_KernelIdeal.fn (F := Ideal) q k v = fun _ => 1#1) :
    (∀ i, IsReal (q i)) ∧ ∀ i, IsReal (k i) := by
  have : Subsingleton Cert.Pre_finite_KernelIdeal.S_.Idx := ⟨fun a b => funext fun x => x.elim0⟩
  have h0 := congrFun h fun x => x.elim0
  obtain ⟨hq, hk⟩ := IntOp.andi_eq_one.mp h0
  exact ⟨fun i => real_of_lt (Host.reduce_andi_all _ _ _ _ _ hq i), fun i => real_of_lt (Host.reduce_andi_all _ _ _ _ _ hk i)⟩

end Pre

/-! ## The blocks -/

/-- Device `c`'s row `r` in the whole array. -/
def pos (c : Dev nD) (r : Fin 1024) : Fin 2048 := ⟨(c.val / 4) * 1024 + r.val, by have : c.val < 8 := c.isLt; omega⟩

/-- Device `c`'s block of an array, at an element. -/
theorem block_at {α : Type} (c : Dev nD) (x : S1x2048x16x128.Idx → α) (hm) (ht) (r : Fin 1024) (h : Fin 16) (e : Fin 128) :
    Layout.blockN ⟨4, ![1, 1024, 16, 128]⟩ ⟨4, ![1, 2048, 16, 128]⟩ (Layout.meshBlock [2, 2, 2] ![[], [0], [], []] c hm) x ht (ix4 0 r h e)
      = x (ix4 0 (pos c r) h e) := by
  rw [Layout.blockN_apply]
  refine congrArg x (funext fun b => Fin.ext ?_)
  rw [Layout.TilesN.idx_val]
  have hc : c.val < 8 := c.isLt
  fin_cases b
  · rfl
  · show ((c.val / 4) % 2 * 1 + 0) * 1024 + r.val = c.val / 4 * 1024 + r.val
    have : c.val / 4 < 2 := by omega
    rw [Nat.mod_eq_of_lt this]
    omega
  · show 0 * 16 + h.val = h.val
    omega
  · show 0 * 128 + e.val = e.val
    omega

theorem half_pr : ∀ c : Dev nD, (c.val / 4 = 0 ∧ (pr c).val / 4 = 1) ∨ (c.val / 4 = 1 ∧ (pr c).val / 4 = 0) := by decide

/-- A row is the device's or its partner's. -/
theorem pos_cases (c : Dev nD) (s : Fin 2048) : (∃ r, s = pos c r) ∨ ∃ r, s = pos (pr c) r := by
  have hs := s.isLt
  by_cases h : s.val / 1024 = c.val / 4
  · exact .inl ⟨⟨s.val % 1024, Nat.mod_lt _ (by decide)⟩, Fin.ext (by show s.val = c.val / 4 * 1024 + s.val % 1024; omega)⟩
  · refine .inr ⟨⟨s.val % 1024, Nat.mod_lt _ (by decide)⟩, Fin.ext ?_⟩
    show s.val = (pr c).val / 4 * 1024 + s.val % 1024
    rcases half_pr c with ⟨h1, h2⟩ | ⟨h1, h2⟩ <;> omega

/-- A sum over all rows: the device's and its partner's. -/
theorem sum_pos (c : Dev nD) (f : Fin 2048 → EReal) : ∑ s, f s = (∑ r : Fin 1024, f (pos c r)) + ∑ r : Fin 1024, f (pos (pr c) r) := by
  have key : ∑ s, f s = ∑ i : Fin 2, ∑ r : Fin 1024, f ⟨i.val * 1024 + r.val, by omega⟩ := by
    rw [← Fintype.sum_prod_type']
    refine (Fintype.sum_equiv (finProdFinEquiv (m := 2) (n := 1024)) _ _ fun x => ?_).symm
    refine congrArg f (Fin.ext ?_)
    show x.1.val * 1024 + x.2.val = x.2.val + 1024 * x.1.val
    omega
  rw [key, Fin.sum_univ_two]
  have hp : ∀ (b : Dev nD) (i : Fin 2), b.val / 4 = i.val →
      ∑ r : Fin 1024, f ⟨i.val * 1024 + r.val, by omega⟩ = ∑ r : Fin 1024, f (pos b r) := fun b i hb =>
    Finset.sum_congr rfl fun r _ => congrArg f (Fin.ext (by show i.val * 1024 + r.val = b.val / 4 * 1024 + r.val; rw [hb]))
  rcases half_pr c with ⟨h1, h2⟩ | ⟨h1, h2⟩
  · rw [hp c 0 h1, hp (pr c) 1 h2]
  · rw [hp c 1 h1, hp (pr c) 0 h2, add_comm]

/-! ## The agreement -/

/-- The reference's element, its operations opened. -/
theorem answer_eq (Q K V : FVec Ideal S1x2048x16x128 .bf16) (hQ : ∀ i, IsReal (Q i)) (hK : ∀ i, IsReal (K i))
    (r : Fin 2048) (h : Fin 16) (d : Fin 128) :
    answer Q K V (ix4 0 r h d)
      = Ideal.div (∑ t : Fin 2048, Ideal.exp (∑ e : Fin 128, Q (ix4 0 r h e) * scale * K (ix4 0 t h e)) * V (ix4 0 t h d))
          (∑ t : Fin 2048, Ideal.exp (∑ e : Fin 128, Q (ix4 0 r h e) * scale * K (ix4 0 t h e))) := by
  have := Cert.Softmax.attention (fun t : Fin 2048 => V (ix4 0 t h d)) (q := fun e : Fin 128 => Q (ix4 0 r h e))
    (k := fun t e => K (ix4 0 t h e)) (c := scale) (fun e => hQ _) (fun t e => hK _) Cert.Softmax.real_scale
  rw [this, answer_at]
  simp only [probs_at, total_at, exps_at, largest_at, scores_at, Cert.Softmax.least]

/-- The kernel's result on device `c` is the reference's at that device's rows. -/
theorem agree (n : (ℓ : Loc nD τ sig) → Buf (Elt Ideal) ℓ) (Q K V : FVec Ideal S1x2048x16x128 .bf16)
    (hq : ∀ c r h e, argQ n c (ix4 0 r h e) = Q (ix4 0 (pos c r) h e))
    (hk : ∀ c r h e, argK n c (ix4 0 r h e) = K (ix4 0 (pos c r) h e))
    (hv : ∀ c r h e, argV n c (ix4 0 r h e) = V (ix4 0 (pos c r) h e))
    (hQ : ∀ i, IsReal (Q i)) (hK : ∀ i, IsReal (K i)) (c : Dev nD) (r : Fin 1024) (h : Fin 16) (d : Fin 128) :
    (resultOf n c : FVec Ideal S1x1024x16x128 .f32) (ix4 0 r h d) = answer Q K V (ix4 0 (pos c r) h d) := by
  have hw : ∀ b t, weight n c b h r t
      = Ideal.exp (∑ e : Fin 128, Q (ix4 0 (pos c r) h e) * scale * K (ix4 0 (pos b t) h e)) := fun b t => by
    unfold weight
    exact congrArg Ideal.exp (Finset.sum_congr rfl fun e _ => by rw [hq, hk]; rfl)
  rw [answer_eq Q K V hQ hK, result_at, sum_pos c, sum_pos c]
  simp only [hw, hv]

/-- Every entry of a whole array lies on some device. -/
theorem real_whole (x : FVec Ideal S1x2048x16x128 .bf16) (a : Dev nD → FVec Ideal S1x1024x16x128 .bf16)
    (ha : ∀ c r h e, a c (ix4 0 r h e) = x (ix4 0 (pos c r) h e)) (hr : ∀ c i, IsReal (a c i)) (i : S1x2048x16x128.Idx) : IsReal (x i) := by
  have hi : i = ix4 0 (i 1) (i 2) (i 3) := by
    refine (eq_ix4 i).trans ?_
    congr 1
    exact Subsingleton.elim (α := Fin 1) _ _
  rw [hi]
  rcases pos_cases 0 (i 1) with ⟨r, h⟩ | ⟨r, h⟩
  · rw [h]; exact (ha 0 r (i 2) (i 3)) ▸ hr _ _
  · rw [h]; exact (ha (pr 0) r (i 2) (i 3)) ▸ hr _ _

end Cert.Agreement

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Agreement
public import Idealize.ShloMosaic.Adequacy
public import Idealize.ShloMosaic.Init

@[expose] public section

noncomputable section

namespace Cert.Proof

open Idealize.ShloMosaic Idealize.SL.Sem
open Cert.KernelIdeal.Flow (run_main)

/-- The facts that the predicates over the arguments state. -/
theorem finite_kernel : Cert.Pre_finite_KernelIdeal.Facts := ⟨by decide, by decide, by decide⟩
theorem finite_reference : Cert.Pre_finite_ReferenceIdeal.Facts := ⟨by decide, by decide, by decide⟩

attribute [local instance] Cert.Kernel.Gen.facts Cert.KernelIdeal.Gen.facts Cert.ReferenceIdeal.Gen.facts finite_kernel finite_reference

/-- The two modules print one text: the kernels' bodies are equal. -/
theorem body_same : @Cert.Kernel.cc0_body Bits _ _ = @Cert.KernelIdeal.cc0_body Bits _ _ := rfl
/-- So are their tables. -/
theorem table_same : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) => rfl
theorem defs_same : @Cert.Kernel.defs Bits _ _ = @Cert.KernelIdeal.defs Bits _ _ := by
  unfold Cert.Kernel.defs Cert.KernelIdeal.defs
  exact congrArg (Pipeline.defs _) table_same

/-- The kernel runs, over bits. -/
theorem frame_kernel : Cert.quiescent_Kernel := fun m ρ _ => by
  rw [defs_same]
  exact (θ_run Cert.KernelIdeal.defs _ _).mono (fun _ h => ⟨fun c => ⟨(h.1 c).1, (h.1 c).2.1, (h.1 c).2.2.1⟩, h.2⟩) (run_main (F := Bits) m ρ)

/-- And over the ideal numbers. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (run_main (F := Ideal) m ρ)

/-- The reference runs on its one device; it has no semaphores. -/
theorem frame_reference : Cert.quiescent_ReferenceIdeal := fun m ρ _ =>
  (θ_run Cert.ReferenceIdeal.defs _ _).mono
    (fun _ h => ⟨fun c => (h c).2, funext fun g => by rcases g with ⟨_, s | s⟩ <;> exact s.elim0⟩)
    (Cert.ReferenceIdeal.Value.run (F := Ideal) m ρ)

open Cert.Agreement in
/-- The kernel's result against the reference's, where the queries and keys are finite. -/
theorem algebraic : Cert.algebraic_KernelIdeal_ReferenceIdeal_pre_finite_KernelIdeal := fun m g m' g' hpre hargs => by
  have hq : ∀ c r h e, Cert.KernelIdeal.Flow.argQ m c (ix4 0 r h e) = m' ((Dev.tc 0).loc Cert.ReferenceIdeal.main_arg0) (ix4 0 (pos c r) h e) :=
    fun c r h e => (congrFun (hargs c).1 _).trans (block_at c _ _ _ r h e)
  have hk : ∀ c r h e, Cert.KernelIdeal.Flow.argK m c (ix4 0 r h e) = m' ((Dev.tc 0).loc Cert.ReferenceIdeal.main_arg1) (ix4 0 (pos c r) h e) :=
    fun c r h e => (congrFun (hargs c).2.1 _).trans (block_at c _ _ _ r h e)
  have hv : ∀ c r h e, Cert.KernelIdeal.Flow.argV m c (ix4 0 r h e) = m' ((Dev.tc 0).loc Cert.ReferenceIdeal.main_arg2) (ix4 0 (pos c r) h e) :=
    fun c r h e => (congrFun (hargs c).2.2 _).trans (block_at c _ _ _ r h e)
  have hQ := real_whole _ (Cert.KernelIdeal.Flow.argQ m) hq fun c => (real_args _ _ _ (hpre c)).1
  have hK := real_whole _ (Cert.KernelIdeal.Flow.argK m) hk fun c => (real_args _ _ _ (hpre c)).2
  refine ⟨Cert.ReferenceIdeal.Softmax.answer _ _ _, ?_,
    (θ_run Cert.ReferenceIdeal.defs _ _).mono (fun _ h => h 0) (Cert.ReferenceIdeal.Softmax.run_answer m' g')⟩
  refine (θ_run Cert.KernelIdeal.defs _ _).mono (fun _ h c => ⟨?_, (h.1 c).1, (h.1 c).2.1, (h.1 c).2.2.1⟩) (run_main (F := Ideal) m g)
  rw [(h.1 c).2.2.2]
  funext i
  have hi : i = ix4 0 (i 1) (i 2) (i 3) := by
    refine (eq_ix4 i).trans ?_
    congr 1
    exact Subsingleton.elim (α := Fin 1) _ _
  rw [hi]
  exact (agree m _ _ _ hq hk hv hQ hK c _ _ _).trans (block_at c _ _ _ _ _ _).symm

theorem claim : Cert.Claim := ⟨inferInstance, inferInstance, inferInstance, finite_kernel, finite_reference,
  frame_kernel, frame_ideal, fun m ρ _ => frame_ideal m ρ trivial, frame_reference, fun m ρ _ => frame_reference m ρ trivial, trivial, algebraic⟩

end Cert.Proof

end
